-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_complete_graph [hPre_complete_graph : Cert.Pre_complete_graph.Facts] (m : (ℓ : Loc Cert.KernelIdeal.nD Cert.KernelIdeal.τ Cert.KernelIdeal.sig) → Buf (Elt Ideal) ℓ) : Prop :=
  ∀ c : Dev Cert.KernelIdeal.nD,
    (Cert.Pre_complete_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_complete_graph [hPre_complete_graph : Cert.Pre_complete_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_complete_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_complete_graph [hKernelIdeal : Cert.KernelIdeal.Facts] [hPre_complete_graph : Cert.Pre_complete_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_complete_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_complete_graph [hReferenceIdeal : Cert.ReferenceIdeal.Facts] [hPre_complete_graph : Cert.Pre_complete_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_complete_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  True

def algebraic_KernelIdeal_ReferenceIdeal_pre_complete_graph [hKernelIdeal : Cert.KernelIdeal.Facts] [hReferenceIdeal : Cert.ReferenceIdeal.Facts] [hPre_complete_graph : Cert.Pre_complete_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_complete_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_complete_graph : Cert.Pre_complete_graph.Facts),
    quiescent_Kernel (hKernel := hKernel)
    ∧ quiescent_KernelIdeal (hKernelIdeal := hKernelIdeal)
    ∧ quiescent_KernelIdeal_pre_complete_graph (hKernelIdeal := hKernelIdeal) (hPre_complete_graph := hPre_complete_graph)
    ∧ quiescent_ReferenceIdeal (hReferenceIdeal := hReferenceIdeal)
    ∧ quiescent_ReferenceIdeal_pre_complete_graph (hReferenceIdeal := hReferenceIdeal) (hPre_complete_graph := hPre_complete_graph)
    ∧ preserves_Kernel_KernelIdeal
    ∧ algebraic_KernelIdeal_ReferenceIdeal_pre_complete_graph (hKernelIdeal := hKernelIdeal) (hReferenceIdeal := hReferenceIdeal) (hPre_complete_graph := hPre_complete_graph)
-- ==== Pre_complete_graph.lean ====
abbrev S1024x16 : Shape := ⟨2, ![1024, 16]⟩
abbrev S512 : Shape := ⟨1, ![512]⟩
abbrev S64x32 : Shape := ⟨2, ![64, 32]⟩
abbrev S32 : Shape := ⟨1, ![32]⟩
abbrev S32x16 : Shape := ⟨2, ![32, 16]⟩
abbrev S16 : Shape := ⟨1, ![16]⟩
abbrev S96x16 : Shape := ⟨2, ![96, 16]⟩
abbrev S96x32 : Shape := ⟨2, ![96, 32]⟩
abbrev S96 : Shape := ⟨1, ![96]⟩
abbrev S32x1 : Shape := ⟨2, ![32, 1]⟩
abbrev S1 : Shape := ⟨1, ![1]⟩
abbrev S_ : Shape := ⟨0, ![]⟩

class Facts : Prop where
  bcast_S_S512 : S_.BroadcastsInDim S512 (![] : Fin 0 → Fin S512.rank)

variable [Facts]

def fn {F : FTy → Type} [FloatOps F] (main_arg0 : IVec S1024x16 32) (main_arg1 : IVec S512 32) (main_arg2 : IVec S512 32) (main_arg3 : FVec F S64x32 .f32) (main_arg4 : FVec F S32 .f32) (main_arg5 : FVec F S32x16 .f32) (main_arg6 : FVec F S16 .f32) (main_arg7 : FVec F S64x32 .f32) (main_arg8 : FVec F S32 .f32) (main_arg9 : FVec F S32x16 .f32) (main_arg10 : FVec F S16 .f32) (main_arg11 : FVec F S96x16 .f32) (main_arg12 : FVec F S96x32 .f32) (main_arg13 : FVec F S96 .f32) (main_arg14 : FVec F S96 .f32) (main_arg15 : FVec F S96x16 .f32) (main_arg16 : FVec F S96x32 .f32) (main_arg17 : FVec F S96 .f32) (main_arg18 : FVec F S96 .f32) (main_arg19 : FVec F S96x16 .f32) (main_arg20 : FVec F S96x32 .f32) (main_arg21 : FVec F S96 .f32) (main_arg22 : FVec F S96 .f32) (main_arg23 : FVec F S32x1 .f32) (main_arg24 : FVec F S1 .f32) : IVec S512 1 :=
  let main_v0 : IVec S512 32 := iotaInDim S512 32 0
  let main_c : IVec S_ 32 := constantI S_ 32 5#32
  let main_v1 : IVec S512 32 := broadcastInDim S512 ![] bcast_S_S512 main_c
  let main_v2 : IVec S512 32 := Host.shrsi main_v0 main_v1
  let main_v3 : IVec S512 1 := cmpi .eq main_arg1 main_v2
  let main_c_0 : IVec S_ 32 := constantI S_ 32 31#32
  let main_v4 : IVec S512 32 := broadcastInDim S512 ![] bcast_S_S512 main_c_0
  let main_v5 : IVec S512 32 := andi main_v0 main_v4
  let main_v6 : IVec S512 1 := cmpi .eq main_arg2 main_v5
  let main_v7 : IVec S512 1 := andi main_v3 main_v6
  main_v7
-- ==== Kernel.lean ====
abbrev S1024x16 : Shape := ⟨2, ![1024, 16]⟩
abbrev S512 : Shape := ⟨1, ![512]⟩
abbrev S64x32 : Shape := ⟨2, ![64, 32]⟩
abbrev S32 : Shape := ⟨1, ![32]⟩
abbrev S32x16 : Shape := ⟨2, ![32, 16]⟩
abbrev S16 : Shape := ⟨1, ![16]⟩
abbrev S96x16 : Shape := ⟨2, ![96, 16]⟩
abbrev S96x32 : Shape := ⟨2, ![96, 32]⟩
abbrev S96 : Shape := ⟨1, ![96]⟩
abbrev S32x1 : Shape := ⟨2, ![32, 1]⟩
abbrev S1 : Shape := ⟨1, ![1]⟩
abbrev S16x1024 : Shape := ⟨2, ![16, 1024]⟩
abbrev S_ : Shape := ⟨0, ![]⟩
abbrev S1x32 : Shape := ⟨2, ![1, 32]⟩
abbrev S1x16 : Shape := ⟨2, ![1, 16]⟩
abbrev S16x96 : Shape := ⟨2, ![16, 96]⟩
abbrev S32x96 : Shape := ⟨2, ![32, 96]⟩
abbrev S1x96 : Shape := ⟨2, ![1, 96]⟩
abbrev S1x1 : Shape := ⟨2, ![1, 1]⟩
abbrev S6x32x1024 : Shape := ⟨3, ![6, 32, 1024]⟩
abbrev S32x1024x6 : Shape := ⟨3, ![32, 1024, 6]⟩
abbrev S17x1 : Shape := ⟨2, ![17, 1]⟩
abbrev S17x32 : Shape := ⟨2, ![17, 32]⟩
abbrev S34x32 : Shape := ⟨2, ![34, 32]⟩
abbrev S34x64 : Shape := ⟨2, ![34, 64]⟩
abbrev S34x16 : Shape := ⟨2, ![34, 16]⟩
abbrev S17x16 : Shape := ⟨2, ![17, 16]⟩
abbrev S17x96 : Shape := ⟨2, ![17, 96]⟩
abbrev S17x6 : Shape := ⟨2, ![17, 6]⟩
abbrev S1024 : Shape := ⟨1, ![1024]⟩
abbrev S1x1024 : Shape := ⟨2, ![1, 1024]⟩
abbrev S17x1024 : Shape := ⟨2, ![17, 1024]⟩
abbrev S6x1024 : Shape := ⟨2, ![6, 1024]⟩
abbrev S6x1x1024 : Shape := ⟨3, ![6, 1, 1024]⟩

abbrev nBuf : Space → Nat
  | .hbm => 49
  | .vmem => 24
  | .smem => 0
  | _ => 0

abbrev bufTy : (tb : Table) → Fin (tcTables nBuf tb) → BufTy
  | .hbm, ⟨0, _⟩ => ⟨S1024x16, .i32⟩
  | .hbm, ⟨1, _⟩ => ⟨S512, .i32⟩
  | .hbm, ⟨2, _⟩ => ⟨S512, .i32⟩
  | .hbm, ⟨3, _⟩ => ⟨S64x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S64x32, .f32⟩
  | .hbm, ⟨8, _⟩ => ⟨S32, .f32⟩
  | .hbm, ⟨9, _⟩ => ⟨S32x16, .f32⟩
  | .hbm, ⟨10, _⟩ => ⟨S16, .f32⟩
  | .hbm, ⟨11, _⟩ => ⟨S96x16, .f32⟩
  | .hbm, ⟨12, _⟩ => ⟨S96x32, .f32⟩
  | .hbm, ⟨13, _⟩ => ⟨S96, .f32⟩
  | .hbm, ⟨14, _⟩ => ⟨S96, .f32⟩
  | .hbm, ⟨15, _⟩ => ⟨S96x16, .f32⟩
  | .hbm, ⟨16, _⟩ => ⟨S96x32, .f32⟩
  | .hbm, ⟨17, _⟩ => ⟨S96, .f32⟩
  | .hbm, ⟨18, _⟩ => ⟨S96, .f32⟩
  | .hbm, ⟨19, _⟩ => ⟨S96x16, .f32⟩
  | .hbm, ⟨20, _⟩ => ⟨S96x32, .f32⟩
  | .hbm, ⟨21, _⟩ => ⟨S96, .f32⟩
  | .hbm, ⟨22, _⟩ => ⟨S96, .f32⟩
  | .hbm, ⟨23, _⟩ => ⟨S32x1, .f32⟩
  | .hbm, ⟨24, _⟩ => ⟨S1, .f32⟩
  | .hbm, ⟨25, _⟩ => ⟨S16x1024, .i32⟩
  | .hbm, ⟨26, _⟩ => ⟨S_, .i32⟩
  | .hbm, ⟨27, _⟩ => ⟨S16x1024, .i32⟩
  | .hbm, ⟨28, _⟩ => ⟨S16x1024, .i1⟩
  | .hbm, ⟨29, _⟩ => ⟨S16x1024, .f32⟩
  | .hbm, ⟨30, _⟩ => ⟨S1x32, .f32⟩
  | .hbm, ⟨31, _⟩ => ⟨S1x16, .f32⟩
  | .hbm, ⟨32, _⟩ => ⟨S1x32, .f32⟩
  | .hbm, ⟨33, _⟩ => ⟨S1x16, .f32⟩
  | .hbm, ⟨34, _⟩ => ⟨S16x96, .f32⟩
  | .hbm, ⟨35, _⟩ => ⟨S32x96, .f32⟩
  | .hbm, ⟨36, _⟩ => ⟨S1x96, .f32⟩
  | .hbm, ⟨37, _⟩ => ⟨S1x96, .f32⟩
  | .hbm, ⟨38, _⟩ => ⟨S16x96, .f32⟩
  | .hbm, ⟨39, _⟩ => ⟨S32x96, .f32⟩
  | .hbm, ⟨40, _⟩ => ⟨S1x96, .f32⟩
  | .hbm, ⟨41, _⟩ => ⟨S1x96, .f32⟩
  | .hbm, ⟨42, _⟩ => ⟨S16x96, .f32⟩
  | .hbm, ⟨43, _⟩ => ⟨S32x96, .f32⟩
  | .hbm, ⟨44, _⟩ => ⟨S1x96, .f32⟩
  | .hbm, ⟨45, _⟩ => ⟨S1x96, .f32⟩
  | .hbm, ⟨46, _⟩ => ⟨S1x1, .f32⟩
  | .hbm, ⟨47, _⟩ => ⟨S6x32x1024, .f32⟩
  | .hbm, ⟨48, _⟩ => ⟨S32x1024x6, .f32⟩
  | .local _ .vmem, ⟨0, _⟩ => ⟨S16x1024, .f32⟩
  | .local _ .vmem, ⟨1, _⟩ => ⟨S64x32, .f32⟩
  | .local _ .vmem, ⟨2, _⟩ => ⟨S1x32, .f32⟩
  | .local _ .vmem, ⟨3, _⟩ => ⟨S32x16, .f32⟩
  | .local _ .vmem, ⟨4, _⟩ => ⟨S1x16, .f32⟩
  | .local _ .vmem, ⟨5, _⟩ => ⟨S64x32, .f32⟩
  | .local _ .vmem, ⟨6, _⟩ => ⟨S1x32, .f32⟩
  | .local _ .vmem, ⟨7, _⟩ => ⟨S32x16, .f32⟩
  | .local _ .vmem, ⟨8, _⟩ => ⟨S1x16, .f32⟩
  | .local _ .vmem, ⟨9, _⟩ => ⟨S16x96, .f32⟩
  | .local _ .vmem, ⟨10, _⟩ => ⟨S32x96, .f32⟩
  | .local _ .vmem, ⟨11, _⟩ => ⟨S1x96, .f32⟩
  | .local _ .vmem, ⟨12, _⟩ => ⟨S1x96, .f32⟩
  | .local _ .vmem, ⟨13, _⟩ => ⟨S16x96, .f32⟩
  | .local _ .vmem, ⟨14, _⟩ => ⟨S32x96, .f32⟩
  | .local _ .vmem, ⟨15, _⟩ => ⟨S1x96, .f32⟩
  | .local _ .vmem, ⟨16, _⟩ => ⟨S1x96, .f32⟩
  | .local _ .vmem, ⟨17, _⟩ => ⟨S16x96, .f32⟩
  | .local _ .vmem, ⟨18, _⟩ => ⟨S32x96, .f32⟩
  | .local _ .vmem, ⟨19, _⟩ => ⟨S1x96, .f32⟩
  | .local _ .vmem, ⟨20, _⟩ => ⟨S1x96, .f32⟩
  | .local _ .vmem, ⟨21, _⟩ => ⟨S32x1, .f32⟩
  | .local _ .vmem, ⟨22, _⟩ => ⟨S1x1, .f32⟩
  | .local _ .vmem, ⟨23, _⟩ => ⟨S6x32x1024, .f32⟩
  | _, _ => ⟨S1024x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_v15 : Ref sig .tc := ⟨.hbm, 41, rfl⟩
abbrev main_call0_v16 : Ref sig .tc := ⟨.hbm, 42, rfl⟩
abbrev main_call0_v17 : Ref sig .tc := ⟨.hbm, 43, rfl⟩
abbrev main_call0_v18 : Ref sig .tc := ⟨.hbm, 44, rfl⟩
abbrev main_call0_v19 : Ref sig .tc := ⟨.hbm, 45, rfl⟩
abbrev main_call0_v20 : Ref sig .tc := ⟨.hbm, 46, rfl⟩
abbrev main_call0_v21 : Ref sig .tc := ⟨.hbm, 47, rfl⟩
abbrev main_v0 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x96 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x96 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x96 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x96 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x96 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x96 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x96 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S16x96 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S32x96 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x96 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x96 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S32x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S6x32x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== ReferenceIdeal.lean ====
abbrev S1024x16 : Shape := ⟨2, ![1024, 16]⟩
abbrev S512 : Shape := ⟨1, ![512]⟩
abbrev S64x32 : Shape := ⟨2, ![64, 32]⟩
abbrev S32 : Shape := ⟨1, ![32]⟩
abbrev S32x16 : Shape := ⟨2, ![32, 16]⟩
abbrev S16 : Shape := ⟨1, ![16]⟩
abbrev S96x16 : Shape := ⟨2, ![96, 16]⟩
abbrev S96x32 : Shape := ⟨2, ![96, 32]⟩
abbrev S96 : Shape := ⟨1, ![96]⟩
abbrev S32x1 : Shape := ⟨2, ![32, 1]⟩
abbrev S1 : Shape := ⟨1, ![1]⟩
abbrev S16384 : Shape := ⟨1, ![16384]⟩
abbrev S_ : Shape := ⟨0, ![]⟩
abbrev S1024x16x32 : Shape := ⟨3, ![1024, 16, 32]⟩
abbrev S1024x32x32 : Shape := ⟨3, ![1024, 32, 32]⟩
abbrev S6x1024x32 : Shape := ⟨3, ![6, 1024, 32]⟩
abbrev S512x1 : Shape := ⟨2, ![512, 1]⟩
abbrev S1024x512x32 : Shape := ⟨3, ![1024, 512, 32]⟩
abbrev S1024x512x64 : Shape := ⟨3, ![1024, 512, 64]⟩
abbrev S1x1x32 : Shape := ⟨3, ![1, 1, 32]⟩
abbrev S1024x512x16 : Shape := ⟨3, ![1024, 512, 16]⟩
abbrev S1x1x16 : Shape := ⟨3, ![1, 1, 16]⟩
abbrev S1024x32x16 : Shape := ⟨3, ![1024, 32, 16]⟩
abbrev S1024x16x16 : Shape := ⟨3, ![1024, 16, 16]⟩
abbrev S32768x16 : Shape := ⟨2, ![32768, 16]⟩
abbrev S32768x32 : Shape := ⟨2, ![32768, 32]⟩
abbrev S16x96 : Shape := ⟨2, ![16, 96]⟩
abbrev S32768x96 : Shape := ⟨2, ![32768, 96]⟩
abbrev S1x96 : Shape := ⟨2, ![1, 96]⟩
abbrev S32x96 : Shape := ⟨2, ![32, 96]⟩
abbrev S16384x16 : Shape := ⟨2, ![16384, 16]⟩
abbrev S16384x32 : Shape := ⟨2, ![16384, 32]⟩
abbrev S16384x96 : Shape := ⟨2, ![16384, 96]⟩
abbrev S16384x1 : Shape := ⟨2, ![16384, 1]⟩
abbrev S1024x32x1 : Shape := ⟨3, ![1024, 32, 1]⟩
abbrev S1x1x1 : Shape := ⟨3, ![1, 1, 1]⟩
abbrev S1024x32 : Shape := ⟨2, ![1024, 32]⟩
abbrev S1x1024x32 : Shape := ⟨3, ![1, 1024, 32]⟩
abbrev S32x1024x6 : Shape := ⟨3, ![32, 1024, 6]⟩

abbrev nBuf : Space → Nat
  | .hbm => 280
  | .vmem => 0
  | .smem => 0
  | _ => 0

abbrev hbmTy0_0 (i : Nat) : BufTy := match i % 128 with
  | 0 => ⟨S1024x16, .i32⟩
  | 1 => ⟨S512, .i32⟩
  | 2 => ⟨S512, .i32⟩
  | 3 => ⟨S64x32, .f32⟩
  | 4 => ⟨S32, .f32⟩
  | 5 => ⟨S32x16, .f32⟩
  | 6 => ⟨S16, .f32⟩
  | 7 => ⟨S64x32, .f32⟩
  | 8 => ⟨S32, .f32⟩
  | 9 => ⟨S32x16, .f32⟩
  | 10 => ⟨S16, .f32⟩
  | 11 => ⟨S96x16, .f32⟩
  | 12 => ⟨S96x32, .f32⟩
  | 13 => ⟨S96, .f32⟩
  | 14 => ⟨S96, .f32⟩
  | 15 => ⟨S96x16, .f32⟩
  | 16 => ⟨S96x32, .f32⟩
  | 17 => ⟨S96, .f32⟩
  | 18 => ⟨S96, .f32⟩
  | 19 => ⟨S96x16, .f32⟩
  | 20 => ⟨S96x32, .f32⟩
  | 21 => ⟨S96, .f32⟩
  | 22 => ⟨S96, .f32⟩
  | 23 => ⟨S32x1, .f32⟩
  | 24 => ⟨S1, .f32⟩
  | 25 => ⟨S16384, .i32⟩
  | 26 => ⟨S_, .i32⟩
  | 27 => ⟨S16384, .i32⟩
  | 28 => ⟨S16384, .i1⟩
  | 29 => ⟨S_, .f32⟩
  | 30 => ⟨S1024x16x32, .f32⟩
  | 31 => ⟨S_, .f32⟩
  | 32 => ⟨S1024x32x32, .f32⟩
  | 33 => ⟨S_, .f32⟩
  | 34 => ⟨S6x1024x32, .f32⟩
  | 35 => ⟨S_, .i32⟩
  | 36 => ⟨S512, .i32⟩
  | 37 => ⟨S512, .i32⟩
  | 38 => ⟨S64x32, .f32⟩
  | 39 => ⟨S32, .f32⟩
  | 40 => ⟨S32x16, .f32⟩
  | 41 => ⟨S16, .f32⟩
  | 42 => ⟨S64x32, .f32⟩
  | 43 => ⟨S32, .f32⟩
  | 44 => ⟨S32x16, .f32⟩
  | 45 => ⟨S16, .f32⟩
  | 46 => ⟨S96x16, .f32⟩
  | 47 => ⟨S96, .f32⟩
  | 48 => ⟨S96x32, .f32⟩
  | 49 => ⟨S96, .f32⟩
  | 50 => ⟨S96x16, .f32⟩
  | 51 => ⟨S96, .f32⟩
  | 52 => ⟨S96x32, .f32⟩
  | 53 => ⟨S96, .f32⟩
  | 54 => ⟨S96x16, .f32⟩
  | 55 => ⟨S96, .f32⟩
  | 56 => ⟨S96x32, .f32⟩
  | 57 => ⟨S96, .f32⟩
  | 58 => ⟨S16384, .i1⟩
  | 59 => ⟨S32x1, .f32⟩
  | 60 => ⟨S1, .f32⟩
  | 61 => ⟨S_, .i32⟩
  | 62 => ⟨S1024x16x32, .f32⟩
  | 63 => ⟨S1024x32x32, .f32⟩
  | 64 => ⟨S6x1024x32, .f32⟩
  | 65 => ⟨S_, .i32⟩
  | 66 => ⟨S_, .i1⟩
  | 67 => ⟨S_, .i32⟩
  | 68 => ⟨S512, .i32⟩
  | 69 => ⟨S512, .i1⟩
  | 70 => ⟨S_, .i32⟩
  | 71 => ⟨S512, .i32⟩
  | 72 => ⟨S512, .i32⟩
  | 73 => ⟨S512, .i32⟩
  | 74 => ⟨S512x1, .i32⟩
  | 75 => ⟨S1024x512x32, .f32⟩
  | 76 => ⟨S_, .i32⟩
  | 77 => ⟨S512, .i32⟩
  | 78 => ⟨S512, .i1⟩
  | 79 => ⟨S_, .i32⟩
  | 80 => ⟨S512, .i32⟩
  | 81 => ⟨S512, .i32⟩
  | 82 => ⟨S512, .i32⟩
  | 83 => ⟨S512x1, .i32⟩
  | 84 => ⟨S1024x512x32, .f32⟩
  | 85 => ⟨S1024x512x64, .f32⟩
  | 86 => ⟨S1024x512x32, .f32⟩
  | 87 => ⟨S1x1x32, .f32⟩
  | 88 => ⟨S1024x512x32, .f32⟩
  | 89 => ⟨S1024x512x32, .f32⟩
  | 90 => ⟨S_, .f32⟩
  | 91 => ⟨S1024x512x32, .f32⟩
  | 92 => ⟨S1024x512x32, .f32⟩
  | 93 => ⟨S1024x512x16, .f32⟩
  | 94 => ⟨S1x1x16, .f32⟩
  | 95 => ⟨S1024x512x16, .f32⟩
  | 96 => ⟨S1024x512x16, .f32⟩
  | 97 => ⟨S1024x512x32, .f32⟩
  | 98 => ⟨S1x1x32, .f32⟩
  | 99 => ⟨S1024x512x32, .f32⟩
  | 100 => ⟨S1024x512x32, .f32⟩
  | 101 => ⟨S_, .f32⟩
  | 102 => ⟨S1024x512x32, .f32⟩
  | 103 => ⟨S1024x512x32, .f32⟩
  | 104 => ⟨S1024x512x16, .f32⟩
  | 105 => ⟨S1x1x16, .f32⟩
  | 106 => ⟨S1024x512x16, .f32⟩
  | 107 => ⟨S1024x512x16, .f32⟩
  | 108 => ⟨S_, .f32⟩
  | 109 => ⟨S1024x32x16, .f32⟩
  | 110 => ⟨S_, .i32⟩
  | 111 => ⟨S512, .i32⟩
  | 112 => ⟨S512, .i1⟩
  | 113 => ⟨S_, .i32⟩
  | 114 => ⟨S512, .i32⟩
  | 115 => ⟨S512, .i32⟩
  | 116 => ⟨S512, .i32⟩
  | 117 => ⟨S512x1, .i32⟩
  | 118 => ⟨S1024x32x16, .f32⟩
  | 119 => ⟨S_, .f32⟩
  | 120 => ⟨S1024x16x16, .f32⟩
  | 121 => ⟨S_, .i32⟩
  | 122 => ⟨S512, .i32⟩
  | 123 => ⟨S512, .i1⟩
  | 124 => ⟨S_, .i32⟩
  | 125 => ⟨S512, .i32⟩
  | 126 => ⟨S512, .i32⟩
  | 127 => ⟨S512, .i32⟩
  | _ => ⟨S1024x16, .i32⟩

abbrev hbmTy0_1 (i : Nat) : BufTy := match i % 128 with
  | 0 => ⟨S512x1, .i32⟩
  | 1 => ⟨S1024x16x16, .f32⟩
  | 2 => ⟨S32768x16, .f32⟩
  | 3 => ⟨S32768x32, .f32⟩
  | 4 => ⟨S16x96, .f32⟩
  | 5 => ⟨S32768x96, .f32⟩
  | 6 => ⟨S1x96, .f32⟩
  | 7 => ⟨S32768x96, .f32⟩
  | 8 => ⟨S32768x96, .f32⟩
  | 9 => ⟨S32x96, .f32⟩
  | 10 => ⟨S32768x96, .f32⟩
  | 11 => ⟨S1x96, .f32⟩
  | 12 => ⟨S32768x96, .f32⟩
  | 13 => ⟨S32768x96, .f32⟩
  | 14 => ⟨S32768x32, .f32⟩
  | 15 => ⟨S32768x32, .f32⟩
  | 16 => ⟨S32768x32, .f32⟩
  | 17 => ⟨S32768x32, .f32⟩
  | 18 => ⟨S32768x32, .f32⟩
  | 19 => ⟨S32768x32, .f32⟩
  | 20 => ⟨S32768x32, .f32⟩
  | 21 => ⟨S32768x32, .f32⟩
  | 22 => ⟨S32768x32, .f32⟩
  | 23 => ⟨S_, .f32⟩
  | 24 => ⟨S32768x32, .f32⟩
  | 25 => ⟨S32768x32, .f32⟩
  | 26 => ⟨S_, .f32⟩
  | 27 => ⟨S32768x32, .f32⟩
  | 28 => ⟨S32768x32, .f32⟩
  | 29 => ⟨S32768x32, .f32⟩
  | 30 => ⟨S32768x32, .f32⟩
  | 31 => ⟨S32768x32, .f32⟩
  | 32 => ⟨S_, .f32⟩
  | 33 => ⟨S32768x32, .f32⟩
  | 34 => ⟨S32768x32, .f32⟩
  | 35 => ⟨S_, .f32⟩
  | 36 => ⟨S32768x32, .f32⟩
  | 37 => ⟨S32768x32, .f32⟩
  | 38 => ⟨S32768x32, .f32⟩
  | 39 => ⟨S32768x32, .f32⟩
  | 40 => ⟨S32768x32, .f32⟩
  | 41 => ⟨S_, .f32⟩
  | 42 => ⟨S32768x32, .f32⟩
  | 43 => ⟨S32768x32, .f32⟩
  | 44 => ⟨S32768x32, .f32⟩
  | 45 => ⟨S32768x32, .f32⟩
  | 46 => ⟨S32768x32, .f32⟩
  | 47 => ⟨S1024x32x32, .f32⟩
  | 48 => ⟨S16384x16, .f32⟩
  | 49 => ⟨S16384x32, .f32⟩
  | 50 => ⟨S16x96, .f32⟩
  | 51 => ⟨S16384x96, .f32⟩
  | 52 => ⟨S1x96, .f32⟩
  | 53 => ⟨S16384x96, .f32⟩
  | 54 => ⟨S16384x96, .f32⟩
  | 55 => ⟨S32x96, .f32⟩
  | 56 => ⟨S16384x96, .f32⟩
  | 57 => ⟨S1x96, .f32⟩
  | 58 => ⟨S16384x96, .f32⟩
  | 59 => ⟨S16384x96, .f32⟩
  | 60 => ⟨S16384x32, .f32⟩
  | 61 => ⟨S16384x32, .f32⟩
  | 62 => ⟨S16384x32, .f32⟩
  | 63 => ⟨S16384x32, .f32⟩
  | 64 => ⟨S16384x32, .f32⟩
  | 65 => ⟨S16384x32, .f32⟩
  | 66 => ⟨S16384x32, .f32⟩
  | 67 => ⟨S16384x32, .f32⟩
  | 68 => ⟨S16384x32, .f32⟩
  | 69 => ⟨S_, .f32⟩
  | 70 => ⟨S16384x32, .f32⟩
  | 71 => ⟨S16384x32, .f32⟩
  | 72 => ⟨S_, .f32⟩
  | 73 => ⟨S16384x32, .f32⟩
  | 74 => ⟨S16384x32, .f32⟩
  | 75 => ⟨S16384x32, .f32⟩
  | 76 => ⟨S16384x32, .f32⟩
  | 77 => ⟨S16384x32, .f32⟩
  | 78 => ⟨S_, .f32⟩
  | 79 => ⟨S16384x32, .f32⟩
  | 80 => ⟨S16384x32, .f32⟩
  | 81 => ⟨S_, .f32⟩
  | 82 => ⟨S16384x32, .f32⟩
  | 83 => ⟨S16384x32, .f32⟩
  | 84 => ⟨S16384x32, .f32⟩
  | 85 => ⟨S16384x32, .f32⟩
  | 86 => ⟨S16384x32, .f32⟩
  | 87 => ⟨S_, .f32⟩
  | 88 => ⟨S16384x32, .f32⟩
  | 89 => ⟨S16384x32, .f32⟩
  | 90 => ⟨S16384x32, .f32⟩
  | 91 => ⟨S16384x32, .f32⟩
  | 92 => ⟨S16384x32, .f32⟩
  | 93 => ⟨S16x96, .f32⟩
  | 94 => ⟨S16384x96, .f32⟩
  | 95 => ⟨S1x96, .f32⟩
  | 96 => ⟨S16384x96, .f32⟩
  | 97 => ⟨S16384x96, .f32⟩
  | 98 => ⟨S32x96, .f32⟩
  | 99 => ⟨S16384x96, .f32⟩
  | 100 => ⟨S1x96, .f32⟩
  | 101 => ⟨S16384x96, .f32⟩
  | 102 => ⟨S16384x96, .f32⟩
  | 103 => ⟨S16384x32, .f32⟩
  | 104 => ⟨S16384x32, .f32⟩
  | 105 => ⟨S16384x32, .f32⟩
  | 106 => ⟨S16384x32, .f32⟩
  | 107 => ⟨S16384x32, .f32⟩
  | 108 => ⟨S16384x32, .f32⟩
  | 109 => ⟨S16384x32, .f32⟩
  | 110 => ⟨S16384x32, .f32⟩
  | 111 => ⟨S16384x32, .f32⟩
  | 112 => ⟨S_, .f32⟩
  | 113 => ⟨S16384x32, .f32⟩
  | 114 => ⟨S16384x32, .f32⟩
  | 115 => ⟨S_, .f32⟩
  | 116 => ⟨S16384x32, .f32⟩
  | 117 => ⟨S16384x32, .f32⟩
  | 118 => ⟨S16384x32, .f32⟩
  | 119 => ⟨S16384x32, .f32⟩
  | 120 => ⟨S16384x32, .f32⟩
  | 121 => ⟨S_, .f32⟩
  | 122 => ⟨S16384x32, .f32⟩
  | 123 => ⟨S16384x32, .f32⟩
  | 124 => ⟨S_, .f32⟩
  | 125 => ⟨S16384x32, .f32⟩
  | 126 => ⟨S16384x32, .f32⟩
  | 127 => ⟨S16384x32, .f32⟩
  | _ => ⟨S1024x16, .i32⟩

abbrev hbmTy0_2 (i : Nat) : BufTy := match i % 128 with
  | 0 => ⟨S16384x32, .f32⟩
  | 1 => ⟨S16384x32, .f32⟩
  | 2 => ⟨S_, .f32⟩
  | 3 => ⟨S16384x32, .f32⟩
  | 4 => ⟨S16384x32, .f32⟩
  | 5 => ⟨S16384x32, .f32⟩
  | 6 => ⟨S16384x32, .f32⟩
  | 7 => ⟨S16384x32, .f32⟩
  | 8 => ⟨S16384x1, .i1⟩
  | 9 => ⟨S16384x32, .i1⟩
  | 10 => ⟨S16384x32, .f32⟩
  | 11 => ⟨S1024x16x32, .f32⟩
  | 12 => ⟨S1024x32x1, .f32⟩
  | 13 => ⟨S1x1x1, .f32⟩
  | 14 => ⟨S1024x32x1, .f32⟩
  | 15 => ⟨S1024x32x1, .f32⟩
  | 16 => ⟨S1024x32, .f32⟩
  | 17 => ⟨S1x1024x32, .f32⟩
  | 18 => ⟨S_, .i32⟩
  | 19 => ⟨S_, .i32⟩
  | 20 => ⟨S6x1024x32, .f32⟩
  | 21 => ⟨S_, .i32⟩
  | 22 => ⟨S_, .i32⟩
  | 23 => ⟨S32x1024x6, .f32⟩
  | _ => ⟨S1024x16, .i32⟩

abbrev hbmTy (i : Nat) : BufTy := match i / 128 with
  | 0 => hbmTy0_0 i
  | 1 => hbmTy0_1 i
  | 2 => hbmTy0_2 i
  | _ => ⟨S1024x16, .i32⟩

abbrev bufTy : (tb : Table) → Fin (tcTables nBuf tb) → BufTy
  | .hbm, ⟨i, _⟩ => hbmTy i
  | _, _ => ⟨S1024x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_c : Ref sig .tc := ⟨.hbm, 26, rfl⟩
abbrev main_v1 : Ref sig .tc := ⟨.hbm, 27, rfl⟩
abbrev main_v2 : Ref sig .tc := ⟨.hbm, 28, rfl⟩
abbrev main_cst : Ref sig .tc := ⟨.hbm, 29, rfl⟩
abbrev main_v3 : Ref sig .tc := ⟨.hbm, 30, rfl⟩
abbrev main_cst_0 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_c_2 : Ref sig .tc := ⟨.hbm, 35, rfl⟩
abbrev main_v6_0 : Ref sig .tc := ⟨.hbm, 36, rfl⟩
abbrev main_v6_1 : Ref sig .tc := ⟨.hbm, 37, rfl⟩
abbrev main_v6_2 : Ref sig .tc := ⟨.hbm, 38, rfl⟩
abbrev main_v6_3 : Ref sig .tc := ⟨.hbm, 39, rfl⟩
abbrev main_v6_4 : Ref sig .tc := ⟨.hbm, 40, rfl⟩
abbrev main_v6_5 : Ref sig .tc := ⟨.hbm, 41, rfl⟩
abbrev main_v6_6 : Ref sig .tc := ⟨.hbm, 42, rfl⟩
abbrev main_v6_7 : Ref sig .tc := ⟨.hbm, 43, rfl⟩
abbrev main_v6_8 : Ref sig .tc := ⟨.hbm, 44, rfl⟩
abbrev main_v6_9 : Ref sig .tc := ⟨.hbm, 45, rfl⟩
abbrev main_v6_10 : Ref sig .tc := ⟨.hbm, 46, rfl⟩
abbrev main_v6_11 : Ref sig .tc := ⟨.hbm, 47, rfl⟩
abbrev main_v6_12 : Ref sig .tc := ⟨.hbm, 48, rfl⟩
abbrev main_v6_13 : Ref sig .tc := ⟨.hbm, 49, rfl⟩
abbrev main_v6_14 : Ref sig .tc := ⟨.hbm, 50, rfl⟩
abbrev main_v6_15 : Ref sig .tc := ⟨.hbm, 51, rfl⟩
abbrev main_v6_16 : Ref sig .tc := ⟨.hbm, 52, rfl⟩
abbrev main_v6_17 : Ref sig .tc := ⟨.hbm, 53, rfl⟩
abbrev main_v6_18 : Ref sig .tc := ⟨.hbm, 54, rfl⟩
abbrev main_v6_19 : Ref sig .tc := ⟨.hbm, 55, rfl⟩
abbrev main_v6_20 : Ref sig .tc := ⟨.hbm, 56, rfl⟩
abbrev main_v6_21 : Ref sig .tc := ⟨.hbm, 57, rfl⟩
abbrev main_v6_22 : Ref sig .tc := ⟨.hbm, 58, rfl⟩
abbrev main_v6_23 : Ref sig .tc := ⟨.hbm, 59, rfl⟩
abbrev main_v6_24 : Ref sig .tc := ⟨.hbm, 60, rfl⟩
abbrev main_v6_25 : Ref sig .tc := ⟨.hbm, 61, rfl⟩
abbrev main_v6_26 : Ref sig .tc := ⟨.hbm, 62, rfl⟩
abbrev main_v6_27 : Ref sig .tc := ⟨.hbm, 63, rfl⟩
abbrev main_v6_28 : Ref sig .tc := ⟨.hbm, 64, rfl⟩
abbrev main_while0c_c_31 : Ref sig .tc := ⟨.hbm, 65, rfl⟩
abbrev main_while0c_v8 : Ref sig .tc := ⟨.hbm, 66, rfl⟩
abbrev main_while0b_c_31 : Ref sig .tc := ⟨.hbm, 67, rfl⟩
abbrev main_while0b_v8 : Ref sig .tc := ⟨.hbm, 68, rfl⟩
abbrev main_while0b_v9 : Ref sig .tc := ⟨.hbm, 69, rfl⟩
abbrev main_while0b_c_32 : Ref sig .tc := ⟨.hbm, 70, rfl⟩
abbrev main_while0b_v10 : Ref sig .tc := ⟨.hbm, 71, rfl⟩
abbrev main_while0b_v11 : Ref sig .tc := ⟨.hbm, 72, rfl⟩
abbrev main_while0b_v12 : Ref sig .tc := ⟨.hbm, 73, rfl⟩
abbrev main_while0b_v13 : Ref sig .tc := ⟨.hbm, 74, rfl⟩
abbrev main_while0b_v14 : Ref sig .tc := ⟨.hbm, 75, rfl⟩
abbrev main_while0b_c_33 : Ref sig .tc := ⟨.hbm, 76, rfl⟩
abbrev main_while0b_v15 : Ref sig .tc := ⟨.hbm, 77, rfl⟩
abbrev main_while0b_v16 : Ref sig .tc := ⟨.hbm, 78, rfl⟩
abbrev main_while0b_c_34 : Ref sig .tc := ⟨.hbm, 79, rfl⟩
abbrev main_while0b_v17 : Ref sig .tc := ⟨.hbm, 80, rfl⟩
abbrev main_while0b_v18 : Ref sig .tc := ⟨.hbm, 81, rfl⟩
abbrev main_while0b_v19 : Ref sig .tc := ⟨.hbm, 82, rfl⟩
abbrev main_while0b_v20 : Ref sig .tc := ⟨.hbm, 83, rfl⟩
abbrev main_while0b_v21 : Ref sig .tc := ⟨.hbm, 84, rfl⟩
abbrev main_while0b_v22 : Ref sig .tc := ⟨.hbm, 85, rfl⟩
abbrev main_while0b_v23 : Ref sig .tc := ⟨.hbm, 86, rfl⟩
abbrev main_while0b_v24 : Ref sig .tc := ⟨.hbm, 87, rfl⟩
abbrev main_while0b_v25 : Ref sig .tc := ⟨.hbm, 88, rfl⟩
abbrev main_while0b_v26 : Ref sig .tc := ⟨.hbm, 89, rfl⟩
abbrev main_while0b_call0_cst : Ref sig .tc := ⟨.hbm, 90, rfl⟩
abbrev main_while0b_call0_v0 : Ref sig .tc := ⟨.hbm, 91, rfl⟩
abbrev main_while0b_v27 : Ref sig .tc := ⟨.hbm, 92, rfl⟩
abbrev main_while0b_v28 : Ref sig .tc := ⟨.hbm, 93, rfl⟩
abbrev main_while0b_v29 : Ref sig .tc := ⟨.hbm, 94, rfl⟩
abbrev main_while0b_v30 : Ref sig .tc := ⟨.hbm, 95, rfl⟩
abbrev main_while0b_v31 : Ref sig .tc := ⟨.hbm, 96, rfl⟩
abbrev main_while0b_v32 : Ref sig .tc := ⟨.hbm, 97, rfl⟩
abbrev main_while0b_v33 : Ref sig .tc := ⟨.hbm, 98, rfl⟩
abbrev main_while0b_v34 : Ref sig .tc := ⟨.hbm, 99, rfl⟩
abbrev main_while0b_v35 : Ref sig .tc := ⟨.hbm, 100, rfl⟩
abbrev main_while0b_call1_cst : Ref sig .tc := ⟨.hbm, 101, rfl⟩
abbrev main_while0b_call1_v0 : Ref sig .tc := ⟨.hbm, 102, rfl⟩
abbrev main_while0b_v36 : Ref sig .tc := ⟨.hbm, 103, rfl⟩
abbrev main_while0b_v37 : Ref sig .tc := ⟨.hbm, 104, rfl⟩
abbrev main_while0b_v38 : Ref sig .tc := ⟨.hbm, 105, rfl⟩
abbrev main_while0b_v39 : Ref sig .tc := ⟨.hbm, 106, rfl⟩
abbrev main_while0b_v40 : Ref sig .tc := ⟨.hbm, 107, rfl⟩
abbrev main_while0b_cst_35 : Ref sig .tc := ⟨.hbm, 108, rfl⟩
abbrev main_while0b_v41 : Ref sig .tc := ⟨.hbm, 109, rfl⟩
abbrev main_while0b_c_36 : Ref sig .tc := ⟨.hbm, 110, rfl⟩
abbrev main_while0b_v42 : Ref sig .tc := ⟨.hbm, 111, rfl⟩
abbrev main_while0b_v43 : Ref sig .tc := ⟨.hbm, 112, rfl⟩
abbrev main_while0b_c_37 : Ref sig .tc := ⟨.hbm, 113, rfl⟩
abbrev main_while0b_v44 : Ref sig .tc := ⟨.hbm, 114, rfl⟩
abbrev main_while0b_v45 : Ref sig .tc := ⟨.hbm, 115, rfl⟩
abbrev main_while0b_v46 : Ref sig .tc := ⟨.hbm, 116, rfl⟩
abbrev main_while0b_v47 : Ref sig .tc := ⟨.hbm, 117, rfl⟩
abbrev main_while0b_v48 : Ref sig .tc := ⟨.hbm, 118, rfl⟩
abbrev main_while0b_cst_38 : Ref sig .tc := ⟨.hbm, 119, rfl⟩
abbrev main_while0b_v49 : Ref sig .tc := ⟨.hbm, 120, rfl⟩
abbrev main_while0b_c_39 : Ref sig .tc := ⟨.hbm, 121, rfl⟩
abbrev main_while0b_v50 : Ref sig .tc := ⟨.hbm, 122, rfl⟩
abbrev main_while0b_v51 : Ref sig .tc := ⟨.hbm, 123, rfl⟩
abbrev main_while0b_c_40 : Ref sig .tc := ⟨.hbm, 124, rfl⟩
abbrev main_while0b_v52 : Ref sig .tc := ⟨.hbm, 125, rfl⟩
abbrev main_while0b_v53 : Ref sig .tc := ⟨.hbm, 126, rfl⟩
abbrev main_while0b_v54 : Ref sig .tc := ⟨.hbm, 127, rfl⟩
abbrev main_while0b_v55 : Ref sig .tc := ⟨.hbm, 128, rfl⟩
abbrev main_while0b_v56 : Ref sig .tc := ⟨.hbm, 129, rfl⟩
abbrev main_while0b_v57 : Ref sig .tc := ⟨.hbm, 130, rfl⟩
abbrev main_while0b_v58 : Ref sig .tc := ⟨.hbm, 131, rfl⟩
abbrev main_while0b_v59 : Ref sig .tc := ⟨.hbm, 132, rfl⟩
abbrev main_while0b_v60 : Ref sig .tc := ⟨.hbm, 133, rfl⟩
abbrev main_while0b_v61 : Ref sig .tc := ⟨.hbm, 134, rfl⟩
abbrev main_while0b_v62 : Ref sig .tc := ⟨.hbm, 135, rfl⟩
abbrev main_while0b_v63 : Ref sig .tc := ⟨.hbm, 136, rfl⟩
abbrev main_while0b_v64 : Ref sig .tc := ⟨.hbm, 137, rfl⟩
abbrev main_while0b_v65 : Ref sig .tc := ⟨.hbm, 138, rfl⟩
abbrev main_while0b_v66 : Ref sig .tc := ⟨.hbm, 139, rfl⟩
abbrev main_while0b_v67 : Ref sig .tc := ⟨.hbm, 140, rfl⟩
abbrev main_while0b_v68 : Ref sig .tc := ⟨.hbm, 141, rfl⟩
abbrev main_while0b_v69 : Ref sig .tc := ⟨.hbm, 142, rfl⟩
abbrev main_while0b_v70 : Ref sig .tc := ⟨.hbm, 143, rfl⟩
abbrev main_while0b_v71 : Ref sig .tc := ⟨.hbm, 144, rfl⟩
abbrev main_while0b_v72 : Ref sig .tc := ⟨.hbm, 145, rfl⟩
abbrev main_while0b_v73 : Ref sig .tc := ⟨.hbm, 146, rfl⟩
abbrev main_while0b_v74 : Ref sig .tc := ⟨.hbm, 147, rfl⟩
abbrev main_while0b_v75 : Ref sig .tc := ⟨.hbm, 148, rfl⟩
abbrev main_while0b_v76 : Ref sig .tc := ⟨.hbm, 149, rfl⟩
abbrev main_while0b_v77 : Ref sig .tc := ⟨.hbm, 150, rfl⟩
abbrev main_while0b_cst_41 : Ref sig .tc := ⟨.hbm, 151, rfl⟩
abbrev main_while0b_v78 : Ref sig .tc := ⟨.hbm, 152, rfl⟩
abbrev main_while0b_v79 : Ref sig .tc := ⟨.hbm, 153, rfl⟩
abbrev main_while0b_cst_42 : Ref sig .tc := ⟨.hbm, 154, rfl⟩
abbrev main_while0b_v80 : Ref sig .tc := ⟨.hbm, 155, rfl⟩
abbrev main_while0b_v81 : Ref sig .tc := ⟨.hbm, 156, rfl⟩
abbrev main_while0b_v82 : Ref sig .tc := ⟨.hbm, 157, rfl⟩
abbrev main_while0b_v83 : Ref sig .tc := ⟨.hbm, 158, rfl⟩
abbrev main_while0b_v84 : Ref sig .tc := ⟨.hbm, 159, rfl⟩
abbrev main_while0b_cst_43 : Ref sig .tc := ⟨.hbm, 160, rfl⟩
abbrev main_while0b_v85 : Ref sig .tc := ⟨.hbm, 161, rfl⟩
abbrev main_while0b_v86 : Ref sig .tc := ⟨.hbm, 162, rfl⟩
abbrev main_while0b_cst_44 : Ref sig .tc := ⟨.hbm, 163, rfl⟩
abbrev main_while0b_v87 : Ref sig .tc := ⟨.hbm, 164, rfl⟩
abbrev main_while0b_v88 : Ref sig .tc := ⟨.hbm, 165, rfl⟩
abbrev main_while0b_v89 : Ref sig .tc := ⟨.hbm, 166, rfl⟩
abbrev main_while0b_v90 : Ref sig .tc := ⟨.hbm, 167, rfl⟩
abbrev main_while0b_v91 : Ref sig .tc := ⟨.hbm, 168, rfl⟩
abbrev main_while0b_cst_45 : Ref sig .tc := ⟨.hbm, 169, rfl⟩
abbrev main_while0b_v92 : Ref sig .tc := ⟨.hbm, 170, rfl⟩
abbrev main_while0b_v93 : Ref sig .tc := ⟨.hbm, 171, rfl⟩
abbrev main_while0b_v94 : Ref sig .tc := ⟨.hbm, 172, rfl⟩
abbrev main_while0b_v95 : Ref sig .tc := ⟨.hbm, 173, rfl⟩
abbrev main_while0b_v96 : Ref sig .tc := ⟨.hbm, 174, rfl⟩
abbrev main_while0b_v97 : Ref sig .tc := ⟨.hbm, 175, rfl⟩
abbrev main_while0b_v98 : Ref sig .tc := ⟨.hbm, 176, rfl⟩
abbrev main_while0b_v99 : Ref sig .tc := ⟨.hbm, 177, rfl⟩
abbrev main_while0b_v100 : Ref sig .tc := ⟨.hbm, 178, rfl⟩
abbrev main_while0b_v101 : Ref sig .tc := ⟨.hbm, 179, rfl⟩
abbrev main_while0b_v102 : Ref sig .tc := ⟨.hbm, 180, rfl⟩
abbrev main_while0b_v103 : Ref sig .tc := ⟨.hbm, 181, rfl⟩
abbrev main_while0b_v104 : Ref sig .tc := ⟨.hbm, 182, rfl⟩
abbrev main_while0b_v105 : Ref sig .tc := ⟨.hbm, 183, rfl⟩
abbrev main_while0b_v106 : Ref sig .tc := ⟨.hbm, 184, rfl⟩
abbrev main_while0b_v107 : Ref sig .tc := ⟨.hbm, 185, rfl⟩
abbrev main_while0b_v108 : Ref sig .tc := ⟨.hbm, 186, rfl⟩
abbrev main_while0b_v109 : Ref sig .tc := ⟨.hbm, 187, rfl⟩
abbrev main_while0b_v110 : Ref sig .tc := ⟨.hbm, 188, rfl⟩
abbrev main_while0b_v111 : Ref sig .tc := ⟨.hbm, 189, rfl⟩
abbrev main_while0b_v112 : Ref sig .tc := ⟨.hbm, 190, rfl⟩
abbrev main_while0b_v113 : Ref sig .tc := ⟨.hbm, 191, rfl⟩
abbrev main_while0b_v114 : Ref sig .tc := ⟨.hbm, 192, rfl⟩
abbrev main_while0b_v115 : Ref sig .tc := ⟨.hbm, 193, rfl⟩
abbrev main_while0b_v116 : Ref sig .tc := ⟨.hbm, 194, rfl⟩
abbrev main_while0b_v117 : Ref sig .tc := ⟨.hbm, 195, rfl⟩
abbrev main_while0b_v118 : Ref sig .tc := ⟨.hbm, 196, rfl⟩
abbrev main_while0b_cst_46 : Ref sig .tc := ⟨.hbm, 197, rfl⟩
abbrev main_while0b_v119 : Ref sig .tc := ⟨.hbm, 198, rfl⟩
abbrev main_while0b_v120 : Ref sig .tc := ⟨.hbm, 199, rfl⟩
abbrev main_while0b_cst_47 : Ref sig .tc := ⟨.hbm, 200, rfl⟩
abbrev main_while0b_v121 : Ref sig .tc := ⟨.hbm, 201, rfl⟩
abbrev main_while0b_v122 : Ref sig .tc := ⟨.hbm, 202, rfl⟩
abbrev main_while0b_v123 : Ref sig .tc := ⟨.hbm, 203, rfl⟩
abbrev main_while0b_v124 : Ref sig .tc := ⟨.hbm, 204, rfl⟩
abbrev main_while0b_v125 : Ref sig .tc := ⟨.hbm, 205, rfl⟩
abbrev main_while0b_cst_48 : Ref sig .tc := ⟨.hbm, 206, rfl⟩
abbrev main_while0b_v126 : Ref sig .tc := ⟨.hbm, 207, rfl⟩
abbrev main_while0b_v127 : Ref sig .tc := ⟨.hbm, 208, rfl⟩
abbrev main_while0b_cst_49 : Ref sig .tc := ⟨.hbm, 209, rfl⟩
abbrev main_while0b_v128 : Ref sig .tc := ⟨.hbm, 210, rfl⟩
abbrev main_while0b_v129 : Ref sig .tc := ⟨.hbm, 211, rfl⟩
abbrev main_while0b_v130 : Ref sig .tc := ⟨.hbm, 212, rfl⟩
abbrev main_while0b_v131 : Ref sig .tc := ⟨.hbm, 213, rfl⟩
abbrev main_while0b_v132 : Ref sig .tc := ⟨.hbm, 214, rfl⟩
abbrev main_while0b_cst_50 : Ref sig .tc := ⟨.hbm, 215, rfl⟩
abbrev main_while0b_v133 : Ref sig .tc := ⟨.hbm, 216, rfl⟩
abbrev main_while0b_v134 : Ref sig .tc := ⟨.hbm, 217, rfl⟩
abbrev main_while0b_v135 : Ref sig .tc := ⟨.hbm, 218, rfl⟩
abbrev main_while0b_v136 : Ref sig .tc := ⟨.hbm, 219, rfl⟩
abbrev main_while0b_v137 : Ref sig .tc := ⟨.hbm, 220, rfl⟩
abbrev main_while0b_v138 : Ref sig .tc := ⟨.hbm, 221, rfl⟩
abbrev main_while0b_v139 : Ref sig .tc := ⟨.hbm, 222, rfl⟩
abbrev main_while0b_v140 : Ref sig .tc := ⟨.hbm, 223, rfl⟩
abbrev main_while0b_v141 : Ref sig .tc := ⟨.hbm, 224, rfl⟩
abbrev main_while0b_v142 : Ref sig .tc := ⟨.hbm, 225, rfl⟩
abbrev main_while0b_v143 : Ref sig .tc := ⟨.hbm, 226, rfl⟩
abbrev main_while0b_v144 : Ref sig .tc := ⟨.hbm, 227, rfl⟩
abbrev main_while0b_v145 : Ref sig .tc := ⟨.hbm, 228, rfl⟩
abbrev main_while0b_v146 : Ref sig .tc := ⟨.hbm, 229, rfl⟩
abbrev main_while0b_v147 : Ref sig .tc := ⟨.hbm, 230, rfl⟩
abbrev main_while0b_v148 : Ref sig .tc := ⟨.hbm, 231, rfl⟩
abbrev main_while0b_v149 : Ref sig .tc := ⟨.hbm, 232, rfl⟩
abbrev main_while0b_v150 : Ref sig .tc := ⟨.hbm, 233, rfl⟩
abbrev main_while0b_v151 : Ref sig .tc := ⟨.hbm, 234, rfl⟩
abbrev main_while0b_v152 : Ref sig .tc := ⟨.hbm, 235, rfl⟩
abbrev main_while0b_v153 : Ref sig .tc := ⟨.hbm, 236, rfl⟩
abbrev main_while0b_v154 : Ref sig .tc := ⟨.hbm, 237, rfl⟩
abbrev main_while0b_v155 : Ref sig .tc := ⟨.hbm, 238, rfl⟩
abbrev main_while0b_v156 : Ref sig .tc := ⟨.hbm, 239, rfl⟩
abbrev main_while0b_cst_51 : Ref sig .tc := ⟨.hbm, 240, rfl⟩
abbrev main_while0b_v157 : Ref sig .tc := ⟨.hbm, 241, rfl⟩
abbrev main_while0b_v158 : Ref sig .tc := ⟨.hbm, 242, rfl⟩
abbrev main_while0b_cst_52 : Ref sig .tc := ⟨.hbm, 243, rfl⟩
abbrev main_while0b_v159 : Ref sig .tc := ⟨.hbm, 244, rfl⟩
abbrev main_while0b_v160 : Ref sig .tc := ⟨.hbm, 245, rfl⟩
abbrev main_while0b_v161 : Ref sig .tc := ⟨.hbm, 246, rfl⟩
abbrev main_while0b_v162 : Ref sig .tc := ⟨.hbm, 247, rfl⟩
abbrev main_while0b_v163 : Ref sig .tc := ⟨.hbm, 248, rfl⟩
abbrev main_while0b_cst_53 : Ref sig .tc := ⟨.hbm, 249, rfl⟩
abbrev main_while0b_v164 : Ref sig .tc := ⟨.hbm, 250, rfl⟩
abbrev main_while0b_v165 : Ref sig .tc := ⟨.hbm, 251, rfl⟩
abbrev main_while0b_cst_54 : Ref sig .tc := ⟨.hbm, 252, rfl⟩
abbrev main_while0b_v166 : Ref sig .tc := ⟨.hbm, 253, rfl⟩
abbrev main_while0b_v167 : Ref sig .tc := ⟨.hbm, 254, rfl⟩
abbrev main_while0b_v168 : Ref sig .tc := ⟨.hbm, 255, rfl⟩
abbrev main_while0b_v169 : Ref sig .tc := ⟨.hbm, 256, rfl⟩
abbrev main_while0b_v170 : Ref sig .tc := ⟨.hbm, 257, rfl⟩
abbrev main_while0b_cst_55 : Ref sig .tc := ⟨.hbm, 258, rfl⟩
abbrev main_while0b_v171 : Ref sig .tc := ⟨.hbm, 259, rfl⟩
abbrev main_while0b_v172 : Ref sig .tc := ⟨.hbm, 260, rfl⟩
abbrev main_while0b_v173 : Ref sig .tc := ⟨.hbm, 261, rfl⟩
abbrev main_while0b_v174 : Ref sig .tc := ⟨.hbm, 262, rfl⟩
abbrev main_while0b_v175 : Ref sig .tc := ⟨.hbm, 263, rfl⟩
abbrev main_while0b_v176 : Ref sig .tc := ⟨.hbm, 264, rfl⟩
abbrev main_while0b_call2_v0 : Ref sig .tc := ⟨.hbm, 265, rfl⟩
abbrev main_while0b_v177 : Ref sig .tc := ⟨.hbm, 266, rfl⟩
abbrev main_while0b_v178 : Ref sig .tc := ⟨.hbm, 267, rfl⟩
abbrev main_while0b_v179 : Ref sig .tc := ⟨.hbm, 268, rfl⟩
abbrev main_while0b_v180 : Ref sig .tc := ⟨.hbm, 269, rfl⟩
abbrev main_while0b_v181 : Ref sig .tc := ⟨.hbm, 270, rfl⟩
abbrev main_while0b_v182 : Ref sig .tc := ⟨.hbm, 271, rfl⟩
abbrev main_while0b_v183 : Ref sig .tc := ⟨.hbm, 272, rfl⟩
abbrev main_while0b_call3_v0 : Ref sig .tc := ⟨.hbm, 273, rfl⟩
abbrev main_while0b_call3_c : Ref sig .tc := ⟨.hbm, 274, rfl⟩
abbrev main_while0b_call3_c_0 : Ref sig .tc := ⟨.hbm, 275, rfl⟩
abbrev main_while0b_v184 : Ref sig .tc := ⟨.hbm, 276, rfl⟩
abbrev main_while0b_c_56 : Ref sig .tc := ⟨.hbm, 277, rfl⟩
abbrev main_while0b_v185 : Ref sig .tc := ⟨.hbm, 278, rfl⟩
abbrev main_v7 : Ref sig .tc := ⟨.hbm, 279, rfl⟩

abbrev nD : Nat := 1
abbrev τ : Topo := Topo.v7x

variable {F : FTy → Type} [FloatOps F]

abbrev main_while0_count : Scf.Loop 32 := ⟨0#32, 6#32, 1#32⟩
-- ==== Proof.Spec.lean ====
/-
  The decoder's mathematics on the table over syndrome weights, in extended reals. On the complete graph, with all states
  zero at the start, a check's state depends on its own syndrome bit and on the number of ones in the syndrome alone, and a
  variable's state on that number alone. `Net` holds the weights, `Table` one row of states for each number of ones,
  `Net.next` one iteration on the table and `Net.llr` the table's predictions.
-/
module

public import Idealize.ShloMosaic.PureOps.Ideal

@[expose] public section

noncomputable section

open scoped BigOperators

namespace Cert.Decoder

open Idealize.ShloMosaic

/-- The weights of a two-layer network from 64 inputs over 32 hidden units to 16 outputs. -/
structure Mlp where
  w1 : Fin 64 → Fin 32 → EReal
  b1 : Fin 32 → EReal
  w2 : Fin 32 → Fin 16 → EReal
  b2 : Fin 16 → EReal

/-- Output `e` of the network at the input `x`: a rectified layer and a linear one. -/
def Mlp.out (p : Mlp) (x : Fin 64 → EReal) (e : Fin 16) : EReal :=
  (∑ j : Fin 32, max ((∑ k : Fin 64, x k * p.w1 k j) + p.b1 j) 0 * p.w2 j e) + p.b2 e

/-- The weights of a gated recurrent unit with 16 inputs and 32 states; rows 0 to 31 are the reset gate's, rows 32 to 63
    the update gate's and rows 64 to 95 the candidate's. -/
structure Gru where
  wih : Fin 96 → Fin 16 → EReal
  bih : Fin 96 → EReal
  whh : Fin 96 → Fin 32 → EReal
  bhh : Fin 96 → EReal

/-- The input's part of gate row `g`. -/
def Gru.gi (p : Gru) (x : Fin 16 → EReal) (g : Fin 96) : EReal := (∑ k : Fin 16, x k * p.wih g k) + p.bih g

/-- The state's part of gate row `g`. -/
def Gru.gh (p : Gru) (h : Fin 32 → EReal) (g : Fin 96) : EReal := (∑ k : Fin 32, h k * p.whh g k) + p.bhh g

/-- The logistic function, as one over one plus the exponential of the negation. -/
def sigmoid (x : EReal) : EReal := Ideal.div 1 (1 + Ideal.exp (-x))

/-- Row `off + f` of the 96 gate rows. -/
def gateRow (off : ℕ) (h : off ≤ 64) (f : Fin 32) : Fin 96 := ⟨off + f, by have := f.isLt; omega⟩

/-- What a unit makes of the two parts `gi` and `gh` of its gates and of its old state `old`. -/
def gate (gi gh : Fin 96 → EReal) (old : Fin 32 → EReal) (f : Fin 32) : EReal :=
  let r := sigmoid (gi (gateRow 0 (by omega) f) + gh (gateRow 0 (by omega) f))
  let z := sigmoid (gi (gateRow 32 (by omega) f) + gh (gateRow 32 (by omega) f))
  (1 - z) * Ideal.tanh (gi (gateRow 64 (by omega) f) + r * gh (gateRow 64 (by omega) f)) + z * old f

/-- State `f` of the unit after the input `x`, from the states `h`. -/
def Gru.out (p : Gru) (x : Fin 16 → EReal) (h : Fin 32 → EReal) (f : Fin 32) : EReal := gate (p.gi x) (p.gh h) h f

/-- All the weights: the two message networks, the unit of the variables, the units of the checks by syndrome bit and the
    prediction layer. -/
structure Net where
  v2c : Mlp
  c2v : Mlp
  gv : Gru
  gc : Bool → Gru
  pw : Fin 32 → EReal
  pb : EReal

/-- The states by number of ones: of the variables, and of the checks with either syndrome bit. -/
structure Table where
  hv : Fin 17 → Fin 32 → EReal
  hc : Bool → Fin 17 → Fin 32 → EReal

/-- A check's states followed by a variable's. -/
def pair (c v : Fin 32 → EReal) (k : Fin 64) : EReal :=
  if h : k.val < 32 then c ⟨k.val, h⟩ else v ⟨k.val - 32, by have := k.isLt; omega⟩

/-- The states of an edge's two ends, the check's syndrome bit being `b` and the number of ones `s`. -/
def Table.ends (T : Table) (b : Bool) (s : Fin 17) : Fin 64 → EReal := pair (T.hc b s) (T.hv s)

/-- One iteration on the table: a check takes 32 equal messages, a variable `16 - s` equal messages from the checks with
    bit zero and `s` from those with bit one. -/
def Net.next (N : Net) (T : Table) : Table where
  hv s := N.gv.out (fun e => (((16 : ℝ) : EReal) - ((s.val : ℝ) : EReal)) * N.c2v.out (T.ends false s) e
    + ((s.val : ℝ) : EReal) * N.c2v.out (T.ends true s) e) (T.hv s)
  hc b s := (N.gc b).out (fun e => ((32 : ℝ) : EReal) * N.v2c.out (T.ends b s) e) (T.hc b s)

/-- The table the iteration starts from. -/
def Table.zero : Table := ⟨fun _ _ => 0, fun _ _ _ => 0⟩

/-- The table after `n` iterations. -/
def Net.table (N : Net) : ℕ → Table
  | 0 => Table.zero
  | n + 1 => N.next (N.table n)

/-- The prediction read off the variables' states. -/
def Net.pred (N : Net) (h : Fin 32 → EReal) : EReal := (∑ k : Fin 32, h k * N.pw k) + N.pb

/-- The prediction for `s` ones after iteration `t`, counted from zero. -/
def Net.llr (N : Net) (t : ℕ) (s : Fin 17) : EReal := N.pred ((N.table (t + 1)).hv s)

end Cert.Decoder

end
-- ==== Proof.KOps.lean ====
/-
  The kernel body's arithmetic, stated once: the message network, the recurrent unit and one iteration on the table as the
  vector operations the body prints, at any float instance; and each of these read at one element, in extended reals.
-/
module

public import proofs.«01_k».proof.Proof.Gen.KernelIdeal.Skeleton
public import proofs.«01_k».proof.Proof.Spec
public import Idealize.ShloMosaic.Lib.Pointwise

@[expose] public section

set_option maxRecDepth 16384

noncomputable section

open scoped BigOperators

namespace Cert.Decoder

open Idealize.ShloMosaic Cert.KernelIdeal Cert.KernelIdeal.Gen

variable {F : FTy → Type} [FloatOps F]

/-- The kernel's weights as its body loads them. -/
structure KW (F : FTy → Type) [FloatOps F] where
  x1 : Vec F S64x32 .f32
  x2 : Vec F S1x32 .f32
  x3 : Vec F S32x16 .f32
  x4 : Vec F S1x16 .f32
  x5 : Vec F S64x32 .f32
  x6 : Vec F S1x32 .f32
  x7 : Vec F S32x16 .f32
  x8 : Vec F S1x16 .f32
  x9 : Vec F S16x96 .f32
  x10 : Vec F S32x96 .f32
  x11 : Vec F S1x96 .f32
  x12 : Vec F S1x96 .f32
  x13 : Vec F S16x96 .f32
  x14 : Vec F S32x96 .f32
  x15 : Vec F S1x96 .f32
  x16 : Vec F S1x96 .f32
  x17 : Vec F S16x96 .f32
  x18 : Vec F S32x96 .f32
  x19 : Vec F S1x96 .f32
  x20 : Vec F S1x96 .f32
  x21 : Vec F S32x1 .f32
  x22 : Vec F S1x1 .f32

/-- The message network on all 34 rows. -/
def kMlp (p : FVec F S34x64 .f32) (w1 : Vec F S64x32 .f32) (b1 : Vec F S1x32 .f32) (w2 : Vec F S32x16 .f32) (b2 : Vec F S1x16 .f32) :
    FVec F S34x16 .f32 :=
  addf (matmul dot_S34x32_S32x16_S34x16_1_0_0_1_n_n none
      (maximumf (addf (matmul dot_S34x64_S64x32_S34x32_1_0_0_1_n_n none p w1 (constant S34x32 .f32 0x00000000#32))
          (broadcastTo S34x32 (shapeCast S1x32 b1 shapeCasts_S1x32_S1x32) broadcasts_S1x32_S34x32))
        (broadcast S34x32 (Scalar.ofBits .f32 0x00000000#32)))
      w2 (constant S34x16 .f32 0x00000000#32))
    (broadcastTo S34x16 (shapeCast S1x16 b2 shapeCasts_S1x16_S1x16) broadcasts_S1x16_S34x16)

/-- The input's part of a recurrent unit's gates, on 17 rows. -/
def kGi (x : FVec F S17x16 .f32) (wih : Vec F S16x96 .f32) (bih : Vec F S1x96 .f32) : FVec F S17x96 .f32 :=
  addf (matmul dot_S17x16_S16x96_S17x96_1_0_0_1_n_n none x (shapeCast S16x96 wih shapeCasts_S16x96_S16x96 : FVec F S16x96 .f32)
      (constant S17x96 .f32 0x00000000#32))
    (broadcastTo S17x96 (shapeCast S1x96 bih shapeCasts_S1x96_S1x96) broadcasts_S1x96_S17x96)

/-- The state's part of a recurrent unit's gates, on 17 rows. -/
def kGh (h : FVec F S17x32 .f32) (whh : Vec F S32x96 .f32) (bhh : Vec F S1x96 .f32) : FVec F S17x96 .f32 :=
  addf (matmul dot_S17x32_S32x96_S17x96_1_0_0_1_n_n none h (shapeCast S32x96 whh shapeCasts_S32x96_S32x96 : FVec F S32x96 .f32)
      (constant S17x96 .f32 0x00000000#32))
    (broadcastTo S17x96 (shapeCast S1x96 bhh shapeCasts_S1x96_S1x96) broadcasts_S1x96_S17x96)

/-- The new states of a recurrent unit from the two parts of its gates and the old states. -/
def kGate (gi gh : FVec F S17x96 .f32) (h : FVec F S17x32 .f32) : FVec F S17x32 .f32 :=
  have z : FVec F S17x32 .f32 := logistic (addf (extractStridedSlice S17x32 ![0, 32] gi slices_S17x96_o0_32_S17x32)
    (extractStridedSlice S17x32 ![0, 32] gh slices_S17x96_o0_32_S17x32))
  have r : FVec F S17x32 .f32 := logistic (addf (extractStridedSlice S17x32 ![0, 0] gi slices_S17x96_o0_0_S17x32)
    (extractStridedSlice S17x32 ![0, 0] gh slices_S17x96_o0_0_S17x32))
  addf (mulf (subf (broadcast S17x32 (Scalar.ofBits .f32 0x3F800000#32)) z)
      (tanh (addf (extractStridedSlice S17x32 ![0, 64] gi slices_S17x96_o0_64_S17x32)
        (mulf r (extractStridedSlice S17x32 ![0, 64] gh slices_S17x96_o0_64_S17x32)))))
    (mulf z h)

/-- The recurrent unit on 17 rows. -/
def kGru (x : FVec F S17x16 .f32) (h : FVec F S17x32 .f32) (wih : Vec F S16x96 .f32) (whh : Vec F S32x96 .f32)
    (bih bhh : Vec F S1x96 .f32) : FVec F S17x32 .f32 :=
  kGate (kGi x wih bih) (kGh h whh bhh) h

/-- Each row's check states beside its variable states. -/
def kPair (hv : FVec F S17x32 .f32) (hc : FVec F S34x32 .f32) : FVec F S34x64 .f32 :=
  concatenate S34x64 1 [⟨S34x32, hc⟩, ⟨S34x32, concatenate S34x32 0 [⟨S17x32, hv⟩, ⟨S17x32, hv⟩] concatenates_S17x32_S17x32_S34x32_d0⟩]
    concatenates_S34x32_S34x32_S34x64_d1

/-- The messages summed at a check: 32 times the one message. -/
def kMc (mvc : FVec F S34x16 .f32) : FVec F S34x16 .f32 := mulf (broadcast S34x16 (Scalar.ofBits .f32 0x42000000#32)) mvc

/-- The messages summed at a variable: those of the checks with bit zero and of those with bit one, each times their number. -/
def kMv (mcv : FVec F S34x16 .f32) : FVec F S17x16 .f32 :=
  addf (mulf (broadcastTo S17x16 (subf (broadcast S17x1 (Scalar.ofBits .f32 0x41800000#32)) (k0_pay2 (F := F))) broadcasts_S17x1_S17x16)
      (extractStridedSlice S17x16 ![0, 0] mcv slices_S34x16_o0_0_S17x16))
    (mulf (broadcastTo S17x16 (k0_pay2 (F := F)) broadcasts_S17x1_S17x16)
      (extractStridedSlice S17x16 ![17, 0] mcv slices_S34x16_o17_0_S17x16))

/-- One iteration's new variable states. -/
def kHv (W : KW F) (hv : FVec F S17x32 .f32) (hc : FVec F S34x32 .f32) : FVec F S17x32 .f32 :=
  kGru (kMv (kMlp (kPair hv hc) W.x5 W.x6 W.x7 W.x8)) hv W.x9 W.x10 W.x11 W.x12

/-- One iteration's new states of the checks with bit zero. -/
def kH0 (W : KW F) (hv : FVec F S17x32 .f32) (hc : FVec F S34x32 .f32) : FVec F S17x32 .f32 :=
  kGru (extractStridedSlice S17x16 ![0, 0] (kMc (kMlp (kPair hv hc) W.x1 W.x2 W.x3 W.x4)) slices_S34x16_o0_0_S17x16)
    (extractStridedSlice S17x32 ![0, 0] hc slices_S34x32_o0_0_S17x32) W.x13 W.x14 W.x15 W.x16

/-- One iteration's new states of the checks with bit one. -/
def kH1 (W : KW F) (hv : FVec F S17x32 .f32) (hc : FVec F S34x32 .f32) : FVec F S17x32 .f32 :=
  kGru (extractStridedSlice S17x16 ![17, 0] (kMc (kMlp (kPair hv hc) W.x1 W.x2 W.x3 W.x4)) slices_S34x16_o17_0_S17x16)
    (extractStridedSlice S17x32 ![17, 0] hc slices_S34x32_o17_0_S17x32) W.x17 W.x18 W.x19 W.x20

/-- One iteration's new check states, bit zero above bit one. -/
def kHc (W : KW F) (hv : FVec F S17x32 .f32) (hc : FVec F S34x32 .f32) : FVec F S34x32 .f32 :=
  concatenate S34x32 0 [⟨S17x32, kH0 W hv hc⟩, ⟨S17x32, kH1 W hv hc⟩] concatenates_S17x32_S17x32_S34x32_d0

/-- The variable and check states after `n` iterations. -/
def kIter (W : KW F) : ℕ → FVec F S17x32 .f32 × FVec F S34x32 .f32
  | 0 => (k0_pay3 (F := F), k0_pay4 (F := F))
  | n + 1 => (kHv W (kIter W n).1 (kIter W n).2, kHc W (kIter W n).1 (kIter W n).2)

/-- The predictions for every number of ones. -/
def kLlr (W : KW F) (hv : FVec F S17x32 .f32) : FVec F S17x1 .f32 :=
  addf (matmul dot_S17x32_S32x1_S17x1_1_0_0_1_n_n none hv W.x21 (constant S17x1 .f32 0x00000000#32))
    (broadcastTo S17x1 (shapeCast S1x1 W.x22 shapeCasts_S1x1_S1x1) broadcasts_S1x1_S17x1)

/-! ## Read at one element, in extended reals -/

/-- The network of the loaded weights. -/
def mlpOf (w1 : Vec Ideal S64x32 .f32) (b1 : Vec Ideal S1x32 .f32) (w2 : Vec Ideal S32x16 .f32) (b2 : Vec Ideal S1x16 .f32) : Mlp where
  w1 k j := w1 (ix2 k j)
  b1 j := b1 (ix2 0 j)
  w2 j e := w2 (ix2 j e)
  b2 e := b2 (ix2 0 e)

/-- The recurrent unit of the loaded weights, which are transposed. -/
def gruOf (wih : Vec Ideal S16x96 .f32) (whh : Vec Ideal S32x96 .f32) (bih bhh : Vec Ideal S1x96 .f32) : Gru where
  wih g k := wih (ix2 k g)
  bih g := bih (ix2 0 g)
  whh g k := whh (ix2 k g)
  bhh g := bhh (ix2 0 g)

/-- All the loaded weights. -/
def KW.net (W : KW Ideal) : Net where
  v2c := mlpOf W.x1 W.x2 W.x3 W.x4
  c2v := mlpOf W.x5 W.x6 W.x7 W.x8
  gv := gruOf W.x9 W.x10 W.x11 W.x12
  gc b := if b then gruOf W.x17 W.x18 W.x19 W.x20 else gruOf W.x13 W.x14 W.x15 W.x16
  pw k := W.x21 (ix2 k 0)
  pb := W.x22 (ix2 0 0)

/-- The kernel's message network at one element is the network of that row. -/
theorem kMlp_apply (p : FVec Ideal S34x64 .f32) (w1 : Vec Ideal S64x32 .f32) (b1 : Vec Ideal S1x32 .f32) (w2 : Vec Ideal S32x16 .f32)
    (b2 : Vec Ideal S1x16 .f32) (r : Fin 34) (e : Fin 16) :
    kMlp p w1 b1 w2 b2 (ix2 r e) = (mlpOf w1 b1 w2 b2).out (fun k => p (ix2 r k)) e := by
  pointwise [kMlp, Mlp.out, mlpOf]

theorem kGi_apply (x : FVec Ideal S17x16 .f32) (wih : Vec Ideal S16x96 .f32) (whh : Vec Ideal S32x96 .f32) (bih bhh : Vec Ideal S1x96 .f32)
    (s : Fin 17) (g : Fin 96) : kGi x wih bih (ix2 s g) = (gruOf wih whh bih bhh).gi (fun k => x (ix2 s k)) g := by
  pointwise [kGi, Gru.gi, gruOf]

theorem kGh_apply (h : FVec Ideal S17x32 .f32) (wih : Vec Ideal S16x96 .f32) (whh : Vec Ideal S32x96 .f32) (bih bhh : Vec Ideal S1x96 .f32)
    (s : Fin 17) (g : Fin 96) : kGh h whh bhh (ix2 s g) = (gruOf wih whh bih bhh).gh (fun k => h (ix2 s k)) g := by
  pointwise [kGh, Gru.gh, gruOf]

theorem kGate_apply (gi gh : FVec Ideal S17x96 .f32) (h : FVec Ideal S17x32 .f32) (s : Fin 17) (f : Fin 32) :
    kGate gi gh h (ix2 s f) = gate (fun g => gi (ix2 s g)) (fun g => gh (ix2 s g)) (fun k => h (ix2 s k)) f := by
  pointwise [kGate, gate, sigmoid, gateRow, Ideal.logistic]

/-- The kernel's recurrent unit at one element is the unit of that row. -/
theorem kGru_apply (x : FVec Ideal S17x16 .f32) (h : FVec Ideal S17x32 .f32) (wih : Vec Ideal S16x96 .f32) (whh : Vec Ideal S32x96 .f32)
    (bih bhh : Vec Ideal S1x96 .f32) (s : Fin 17) (f : Fin 32) :
    kGru x h wih whh bih bhh (ix2 s f) = (gruOf wih whh bih bhh).out (fun k => x (ix2 s k)) (fun k => h (ix2 s k)) f := by
  unfold kGru Gru.out
  rw [kGate_apply]
  simp only [kGi_apply _ wih whh bih bhh, kGh_apply _ wih whh bih bhh]

/-- The kernel's prediction at one row. -/
theorem kLlr_apply (W : KW Ideal) (hv : FVec Ideal S17x32 .f32) (s : Fin 17) :
    kLlr W hv (ix2 s 0) = W.net.pred (fun k => hv (ix2 s k)) := by
  pointwise [kLlr, KW.net, Net.pred]

end Cert.Decoder

end
-- ==== Proof.KBody.lean ====
/-
  What the kernel body stores, as six iterations on the table: each value of the body that the frame names is the matching
  value of `kIter`, at any float instance.
-/
module

public import proofs.«01_k».proof.Proof.Gen.KernelIdeal.Frame
public import proofs.«01_k».proof.Proof.KOps

@[expose] public section

set_option maxRecDepth 16384

noncomputable section

namespace Cert.Decoder

open Idealize.ShloMosaic Cert.KernelIdeal Cert.KernelIdeal.Gen

variable {F : FTy → Type} [FloatOps F]

/-- The six columns of predictions, looked up for every batch element by a product with the one-hot matrix of its number of
    ones, and repeated over the variables. -/
def kLook (v807 : FVec F S17x6 .f32) (v808 : Vec F S16x1024 .f32) : FVec F S6x32x1024 .f32 :=
  have v811 : FVec F S1x1024 .f32 := shapeCast S1x1024
    (multiReduction .add [0] S1024 (shapeCast S16x1024 v808 shapeCasts_S16x1024_S16x1024 : FVec F S16x1024 .f32) 0x00000000#32
      reduces_S16x1024_S1024 (.inl rfl) rfl : FVec F S1024 .f32) shapeCasts_S1024_S1x1024
  have v813 : FVec F S17x1024 .f32 := sitofp .f32 (iota .tc S17x1024 32 [0] iota_S17x1024_d0_w32)
  have v817 : FVec F S17x1024 .f32 := sitofp .f32 (extui 32 (cmpf .oeq v813 (broadcastTo S17x1024 v811 broadcasts_S1x1024_S17x1024)) natLt_1_32)
  have v818 : FVec F S6x1024 .f32 := matmul dot_S17x6_S17x1024_S6x1024_0_0_1_1_n_n none v807 v817 (constant S6x1024 .f32 0x00000000#32)
  broadcastTo S6x32x1024 (shapeCast S6x1x1024 (shapeCast S6x1x1024 v818 shapeCasts_S6x1024_S6x1x1024) shapeCasts_S6x1x1024_S6x1x1024)
    broadcasts_S6x1x1024_S6x32x1024

/-- The predictions after each of the six iterations, side by side. -/
def kTable (W : KW F) : FVec F S17x6 .f32 :=
  concatenate S17x6 1 [⟨S17x1, kLlr W (kIter W 1).1⟩, ⟨S17x1, kLlr W (kIter W 2).1⟩, ⟨S17x1, kLlr W (kIter W 3).1⟩,
    ⟨S17x1, kLlr W (kIter W 4).1⟩, ⟨S17x1, kLlr W (kIter W 5).1⟩, ⟨S17x1, kLlr W (kIter W 6).1⟩]
    concatenates_S17x1_S17x1_S17x1_S17x1_S17x1_S17x1_S17x6_d1

section
variable (x0 : Vec F S16x1024 .f32) (x1 : Vec F S64x32 .f32) (x2 : Vec F S1x32 .f32) (x3 : Vec F S32x16 .f32) (x4 : Vec F S1x16 .f32)
  (x5 : Vec F S64x32 .f32) (x6 : Vec F S1x32 .f32) (x7 : Vec F S32x16 .f32) (x8 : Vec F S1x16 .f32)
  (x9 : Vec F S16x96 .f32) (x10 : Vec F S32x96 .f32) (x11 : Vec F S1x96 .f32) (x12 : Vec F S1x96 .f32)
  (x13 : Vec F S16x96 .f32) (x14 : Vec F S32x96 .f32) (x15 : Vec F S1x96 .f32) (x16 : Vec F S1x96 .f32)
  (x17 : Vec F S16x96 .f32) (x18 : Vec F S32x96 .f32) (x19 : Vec F S1x96 .f32) (x20 : Vec F S1x96 .f32)
  (x21 : Vec F S32x1 .f32) (x22 : Vec F S1x1 .f32)

/-- The weights as the body loads them from the windows' blocks. -/
def ldW : KW F := ⟨View.ld x1 r0_0, View.ld x2 r0_1, View.ld x3 r0_2, View.ld x4 r0_3, View.ld x5 r0_0, View.ld x6 r0_1,
  View.ld x7 r0_2, View.ld x8 r0_3, View.ld x9 r0_4, View.ld x10 r0_5, View.ld x11 r0_6, View.ld x12 r0_6, View.ld x13 r0_4,
  View.ld x14 r0_5, View.ld x15 r0_6, View.ld x16 r0_6, View.ld x17 r0_4, View.ld x18 r0_5, View.ld x19 r0_6, View.ld x20 r0_6,
  View.ld x21 r0_7, View.ld x22 r0_8⟩

/-- After one iteration, the variables. -/
theorem hv1 :
    k0_pay97 x0 x1 x2 x3 x4 x5 x6 x7 x8 x9 x10 x11 x12 x13 x14 x15 x16 x17 x18 x19 x20 x21 x22
      = kHv (ldW x1 x2 x3 x4 x5 x6 x7 x8 x9 x10 x11 x12 x13 x14 x15 x16 x17 x18 x19 x20 x21 x22) (k0_pay3 (F := F)) (k0_pay4 (F := F)) := rfl

/-- After one iteration, the checks. -/
theorem hc1 :
    k0_pay104 x0 x1 x2 x3 x4 x5 x6 x7 x8 x9 x10 x11 x12 x13 x14 x15 x16 x17 x18 x19 x20 x21 x22
      = kHc (ldW x1 x2 x3 x4 x5 x6 x7 x8 x9 x10 x11 x12 x13 x14 x15 x16 x17 x18 x19 x20 x21 x22) (k0_pay3 (F := F)) (k0_pay4 (F := F)) := rfl

/-- Iteration two, the variables. -/
theorem hv2 :
    k0_pay106 x0 x1 x2 x3 x4 x5 x6 x7 x8 x9 x10 x11 x12 x13 x14 x15 x16 x17 x18 x19 x20 x21 x22
      = kHv (ldW x1 x2 x3 x4 x5 x6 x7 x8 x9 x10 x11 x12 x13 x14 x15 x16 x17 x18 x19 x20 x21 x22)
        (k0_pay97 x0 x1 x2 x3 x4 x5 x6 x7 x8 x9 x10 x11 x12 x13 x14 x15 x16 x17 x18 x19 x20 x21 x22)
        (k0_pay104 x0 x1 x2 x3 x4 x5 x6 x7 x8 x9 x10 x11 x12 x13 x14 x15 x16 x17 x18 x19 x20 x21 x22) := rfl

/-- Iteration two, the checks. -/
theorem hc2 :
    k0_pay107 x0 x1 x2 x3 x4 x5 x6 x7 x8 x9 x10 x11 x12 x13 x14 x15 x16 x17 x18 x19 x20 x21 x22
      = kHc (ldW x1 x2 x3 x4 x5 x6 x7 x8 x9 x10 x11 x12 x13 x14 x15 x16 x17 x18 x19 x20 x21 x22)
        (k0_pay97 x0 x1 x2 x3 x4 x5 x6 x7 x8 x9 x10 x11 x12 x13 x14 x15 x16 x17 x18 x19 x20 x21 x22)
        (k0_pay104 x0 x1 x2 x3 x4 x5 x6 x7 x8 x9 x10 x11 x12 x13 x14 x15 x16 x17 x18 x19 x20 x21 x22) := rfl

/-- Iteration three, the variables. -/
theorem hv3 :
    k0_pay110 x0 x1 x2 x3 x4 x5 x6 x7 x8 x9 x10 x11 x12 x13 x14 x15 x16 x17 x18 x19 x20 x21 x22
      = kHv (ldW x1 x2 x3 x4 x5 x6 x7 x8 x9 x10 x11 x12 x13 x14 x15 x16 x17 x18 x19 x20 x21 x22)
        (k0_pay106 x0 x1 x2 x3 x4 x5 x6 x7 x8 x9 x10 x11 x12 x13 x14 x15 x16 x17 x18 x19 x20 x21 x22)
        (k0_pay107 x0 x1 x2 x3 x4 x5 x6 x7 x8 x9 x10 x11 x12 x13 x14 x15 x16 x17 x18 x19 x20 x21 x22) := rfl

/-- Iteration three, the checks. -/
theorem hc3 :
    k0_pay117 x0 x1 x2 x3 x4 x5 x6 x7 x8 x9 x10 x11 x12 x13 x14 x15 x16 x17 x18 x19 x20 x21 x22
      = kHc (ldW x1 x2 x3 x4 x5 x6 x7 x8 x9 x10 x11 x12 x13 x14 x15 x16 x17 x18 x19 x20 x21 x22)
        (k0_pay106 x0 x1 x2 x3 x4 x5 x6 x7 x8 x9 x10 x11 x12 x13 x14 x15 x16 x17 x18 x19 x20 x21 x22)
        (k0_pay107 x0 x1 x2 x3 x4 x5 x6 x7 x8 x9 x10 x11 x12 x13 x14 x15 x16 x17 x18 x19 x20 x21 x22) := rfl

/-- Iteration four, the variables. -/
theorem hv4 :
    k0_pay119 x0 x1 x2 x3 x4 x5 x6 x7 x8 x9 x10 x11 x12 x13 x14 x15 x16 x17 x18 x19 x20 x21 x22
      = kHv (ldW x1 x2 x3 x4 x5 x6 x7 x8 x9 x10 x11 x12 x13 x14 x15 x16 x17 x18 x19 x20 x21 x22)
        (k0_pay110 x0 x1 x2 x3 x4 x5 x6 x7 x8 x9 x10 x11 x12 x13 x14 x15 x16 x17 x18 x19 x20 x21 x22)
        (k0_pay117 x0 x1 x2 x3 x4 x5 x6 x7 x8 x9 x10 x11 x12 x13 x14 x15 x16 x17 x18 x19 x20 x21 x22) := rfl

/-- Iteration four, the checks. -/
theorem hc4 :
    k0_pay120 x0 x1 x2 x3 x4 x5 x6 x7 x8 x9 x10 x11 x12 x13 x14 x15 x16 x17 x18 x19 x20 x21 x22
      = kHc (ldW x1 x2 x3 x4 x5 x6 x7 x8 x9 x10 x11 x12 x13 x14 x15 x16 x17 x18 x19 x20 x21 x22)
        (k0_pay110 x0 x1 x2 x3 x4 x5 x6 x7 x8 x9 x10 x11 x12 x13 x14 x15 x16 x17 x18 x19 x20 x21 x22)
        (k0_pay117 x0 x1 x2 x3 x4 x5 x6 x7 x8 x9 x10 x11 x12 x13 x14 x15 x16 x17 x18 x19 x20 x21 x22) := rfl

/-- Iteration five, the variables. -/
theorem hv5 :
    k0_pay123 x0 x1 x2 x3 x4 x5 x6 x7 x8 x9 x10 x11 x12 x13 x14 x15 x16 x17 x18 x19 x20 x21 x22
      = kHv (ldW x1 x2 x3 x4 x5 x6 x7 x8 x9 x10 x11 x12 x13 x14 x15 x16 x17 x18 x19 x20 x21 x22)
        (k0_pay119 x0 x1 x2 x3 x4 x5 x6 x7 x8 x9 x10 x11 x12 x13 x14 x15 x16 x17 x18 x19 x20 x21 x22)
        (k0_pay120 x0 x1 x2 x3 x4 x5 x6 x7 x8 x9 x10 x11 x12 x13 x14 x15 x16 x17 x18 x19 x20 x21 x22) := rfl

/-- The table after one iteration. -/
theorem iter1 :
    k0_pay97 x0 x1 x2 x3 x4 x5 x6 x7 x8 x9 x10 x11 x12 x13 x14 x15 x16 x17 x18 x19 x20 x21 x22
        = (kIter (ldW x1 x2 x3 x4 x5 x6 x7 x8 x9 x10 x11 x12 x13 x14 x15 x16 x17 x18 x19 x20 x21 x22) 1).1
      ∧ k0_pay104 x0 x1 x2 x3 x4 x5 x6 x7 x8 x9 x10 x11 x12 x13 x14 x15 x16 x17 x18 x19 x20 x21 x22
        = (kIter (ldW x1 x2 x3 x4 x5 x6 x7 x8 x9 x10 x11 x12 x13 x14 x15 x16 x17 x18 x19 x20 x21 x22) 1).2 := by
  rw [hv1, hc1]
  exact ⟨rfl, rfl⟩

/-- The table after two iterations. -/
theorem iter2 :
    k0_pay106 x0 x1 x2 x3 x4 x5 x6 x7 x8 x9 x10 x11 x12 x13 x14 x15 x16 x17 x18 x19 x20 x21 x22
        = (kIter (ldW x1 x2 x3 x4 x5 x6 x7 x8 x9 x10 x11 x12 x13 x14 x15 x16 x17 x18 x19 x20 x21 x22) 2).1
      ∧ k0_pay107 x0 x1 x2 x3 x4 x5 x6 x7 x8 x9 x10 x11 x12 x13 x14 x15 x16 x17 x18 x19 x20 x21 x22
        = (kIter (ldW x1 x2 x3 x4 x5 x6 x7 x8 x9 x10 x11 x12 x13 x14 x15 x16 x17 x18 x19 x20 x21 x22) 2).2 := by
  rw [hv2, hc2, (iter1 x0 x1 x2 x3 x4 x5 x6 x7 x8 x9 x10 x11 x12 x13 x14 x15 x16 x17 x18 x19 x20 x21 x22).1, (iter1 x0 x1 x2 x3 x4 x5 x6 x7 x8 x9 x10 x11 x12 x13 x14 x15 x16 x17 x18 x19 x20 x21 x22).2]
  exact ⟨rfl, rfl⟩

/-- The table after three iterations. -/
theorem iter3 :
    k0_pay110 x0 x1 x2 x3 x4 x5 x6 x7 x8 x9 x10 x11 x12 x13 x14 x15 x16 x17 x18 x19 x20 x21 x22
        = (kIter (ldW x1 x2 x3 x4 x5 x6 x7 x8 x9 x10 x11 x12 x13 x14 x15 x16 x17 x18 x19 x20 x21 x22) 3).1
      ∧ k0_pay117 x0 x1 x2 x3 x4 x5 x6 x7 x8 x9 x10 x11 x12 x13 x14 x15 x16 x17 x18 x19 x20 x21 x22
        = (kIter (ldW x1 x2 x3 x4 x5 x6 x7 x8 x9 x10 x11 x12 x13 x14 x15 x16 x17 x18 x19 x20 x21 x22) 3).2 := by
  rw [hv3, hc3, (iter2 x0 x1 x2 x3 x4 x5 x6 x7 x8 x9 x10 x11 x12 x13 x14 x15 x16 x17 x18 x19 x20 x21 x22).1, (iter2 x0 x1 x2 x3 x4 x5 x6 x7 x8 x9 x10 x11 x12 x13 x14 x15 x16 x17 x18 x19 x20 x21 x22).2]
  exact ⟨rfl, rfl⟩

/-- The table after four iterations. -/
theorem iter4 :
    k0_pay119 x0 x1 x2 x3 x4 x5 x6 x7 x8 x9 x10 x11 x12 x13 x14 x15 x16 x17 x18 x19 x20 x21 x22
        = (kIter (ldW x1 x2 x3 x4 x5 x6 x7 x8 x9 x10 x11 x12 x13 x14 x15 x16 x17 x18 x19 x20 x21 x22) 4).1
      ∧ k0_pay120 x0 x1 x2 x3 x4 x5 x6 x7 x8 x9 x10 x11 x12 x13 x14 x15 x16 x17 x18 x19 x20 x21 x22
        = (kIter (ldW x1 x2 x3 x4 x5 x6 x7 x8 x9 x10 x11 x12 x13 x14 x15 x16 x17 x18 x19 x20 x21 x22) 4).2 := by
  rw [hv4, hc4, (iter3 x0 x1 x2 x3 x4 x5 x6 x7 x8 x9 x10 x11 x12 x13 x14 x15 x16 x17 x18 x19 x20 x21 x22).1, (iter3 x0 x1 x2 x3 x4 x5 x6 x7 x8 x9 x10 x11 x12 x13 x14 x15 x16 x17 x18 x19 x20 x21 x22).2]
  exact ⟨rfl, rfl⟩

/-- The variables after five iterations. -/
theorem iter5 :
    k0_pay123 x0 x1 x2 x3 x4 x5 x6 x7 x8 x9 x10 x11 x12 x13 x14 x15 x16 x17 x18 x19 x20 x21 x22
      = (kIter (ldW x1 x2 x3 x4 x5 x6 x7 x8 x9 x10 x11 x12 x13 x14 x15 x16 x17 x18 x19 x20 x21 x22) 5).1 := by
  rw [hv5, (iter4 x0 x1 x2 x3 x4 x5 x6 x7 x8 x9 x10 x11 x12 x13 x14 x15 x16 x17 x18 x19 x20 x21 x22).1, (iter4 x0 x1 x2 x3 x4 x5 x6 x7 x8 x9 x10 x11 x12 x13 x14 x15 x16 x17 x18 x19 x20 x21 x22).2]
  rfl

/-- What the body stores is the look-up in the table of predictions. -/
theorem out_eq :
    out0_23 x0 x1 x2 x3 x4 x5 x6 x7 x8 x9 x10 x11 x12 x13 x14 x15 x16 x17 x18 x19 x20 x21 x22
      = View.canon [⟨r0_10, kLook (kTable (ldW x1 x2 x3 x4 x5 x6 x7 x8 x9 x10 x11 x12 x13 x14 x15 x16 x17 x18 x19 x20 x21 x22)) (View.ld x0 r0_9)⟩] := by
  have h : ∀ p q : FVec F S6x32x1024 .f32, p = q → View.canon [⟨r0_10, p⟩] = (View.canon [⟨r0_10, q⟩] : Vec F S6x32x1024 .f32) := by
    rintro p q rfl; rfl
  refine h _ _ ?_
  unfold kTable
  rw [← (iter1 x0 x1 x2 x3 x4 x5 x6 x7 x8 x9 x10 x11 x12 x13 x14 x15 x16 x17 x18 x19 x20 x21 x22).1, ← (iter2 x0 x1 x2 x3 x4 x5 x6 x7 x8 x9 x10 x11 x12 x13 x14 x15 x16 x17 x18 x19 x20 x21 x22).1,
    ← (iter3 x0 x1 x2 x3 x4 x5 x6 x7 x8 x9 x10 x11 x12 x13 x14 x15 x16 x17 x18 x19 x20 x21 x22).1, ← (iter4 x0 x1 x2 x3 x4 x5 x6 x7 x8 x9 x10 x11 x12 x13 x14 x15 x16 x17 x18 x19 x20 x21 x22).1,
    ← iter5 x0 x1 x2 x3 x4 x5 x6 x7 x8 x9 x10 x11 x12 x13 x14 x15 x16 x17 x18 x19 x20 x21 x22]
  have h6 : (kIter (ldW x1 x2 x3 x4 x5 x6 x7 x8 x9 x10 x11 x12 x13 x14 x15 x16 x17 x18 x19 x20 x21 x22) 6).1
      = kHv (ldW x1 x2 x3 x4 x5 x6 x7 x8 x9 x10 x11 x12 x13 x14 x15 x16 x17 x18 x19 x20 x21 x22)
        (k0_pay123 x0 x1 x2 x3 x4 x5 x6 x7 x8 x9 x10 x11 x12 x13 x14 x15 x16 x17 x18 x19 x20 x21 x22)
        (kHc (ldW x1 x2 x3 x4 x5 x6 x7 x8 x9 x10 x11 x12 x13 x14 x15 x16 x17 x18 x19 x20 x21 x22)
          (k0_pay119 x0 x1 x2 x3 x4 x5 x6 x7 x8 x9 x10 x11 x12 x13 x14 x15 x16 x17 x18 x19 x20 x21 x22)
          (k0_pay120 x0 x1 x2 x3 x4 x5 x6 x7 x8 x9 x10 x11 x12 x13 x14 x15 x16 x17 x18 x19 x20 x21 x22)) := by
    rw [iter5, (iter4 x0 x1 x2 x3 x4 x5 x6 x7 x8 x9 x10 x11 x12 x13 x14 x15 x16 x17 x18 x19 x20 x21 x22).1, (iter4 x0 x1 x2 x3 x4 x5 x6 x7 x8 x9 x10 x11 x12 x13 x14 x15 x16 x17 x18 x19 x20 x21 x22).2]
    rfl
  rw [h6]
  rfl

end

end Cert.Decoder

end
-- ==== Proof.KIter.lean ====
/-
  The kernel's iteration on the table, in extended reals: the states after `n` iterations are the table's after `n`.
-/
module

public import proofs.«01_k».proof.Proof.KOps

@[expose] public section

set_option maxRecDepth 16384

noncomputable section

open scoped BigOperators

namespace Cert.Decoder

open Idealize.ShloMosaic Cert.KernelIdeal Cert.KernelIdeal.Gen

/-- The row of the 34 that holds the checks with syndrome bit `b` when there are `s` ones. -/
def tabRow (b : Bool) (s : Fin 17) : Fin 34 := ⟨(if b then 17 else 0) + s.val, by have := s.isLt; split <;> omega⟩

/-- The pattern of 16.0 is sixteen. -/
theorem ofBits_sixteen : Ideal.ofBits .f32 0x41800000#32 = ((16 : ℝ) : EReal) := by
  simp [Ideal.ofBits, Ideal.ieee, -EReal.coe_mul]; norm_num

/-- The pattern of 32.0 is thirty-two. -/
theorem ofBits_thirtytwo : Ideal.ofBits .f32 0x42000000#32 = ((32 : ℝ) : EReal) := by
  simp [Ideal.ofBits, Ideal.ieee, -EReal.coe_mul]; norm_num

/-- A row of the paired states: the check states of the row and the variable states of its number of ones. -/
theorem kPair_apply (hv : FVec Ideal S17x32 .f32) (hc : FVec Ideal S34x32 .f32) (b : Bool) (s : Fin 17) (k : Fin 64) :
    kPair hv hc (ix2 (tabRow b s) k) = pair (fun f => hc (ix2 (tabRow b s) f)) (fun f => hv (ix2 s f)) k := by
  cases b
  · pointwise [kPair, pair, tabRow]
    simp
  · pointwise [kPair, pair, tabRow]

/-- A small natural number converted to a float is that number. -/
theorem sitofp_nat (n : ℕ) (h : n < 2 ^ 31) :
    (FloatOps.sitofp .f32 (BitVec.ofNat 32 n) : Ideal .f32) = ((n : ℝ) : EReal) := by
  have e : (BitVec.ofNat 32 n).toInt = (n : ℤ) := by
    rw [BitVec.toInt_eq_toNat_of_lt (by rw [BitVec.toNat_ofNat]; omega), BitVec.toNat_ofNat, Nat.mod_eq_of_lt (by omega)]
  show (((BitVec.ofNat 32 n).toInt : ℝ) : EReal) = _
  rw [e]; simp

theorem kMc_apply (mvc : FVec Ideal S34x16 .f32) (r : Fin 34) (e : Fin 16) :
    kMc mvc (ix2 r e) = ((32 : ℝ) : EReal) * mvc (ix2 r e) := by
  pointwise [kMc, ofBits_thirtytwo]

theorem kMv_apply (mcv : FVec Ideal S34x16 .f32) (s : Fin 17) (e : Fin 16) :
    kMv mcv (ix2 s e) = (((16 : ℝ) : EReal) - ((s.val : ℝ) : EReal)) * mcv (ix2 (tabRow false s) e)
      + ((s.val : ℝ) : EReal) * mcv (ix2 (tabRow true s) e) := by
  pointwise [kMv, ofBits_sixteen, k0_pay2, tabRow]
  rw [sitofp_nat _ (by have := s.isLt; omega)]
  simp

/-- The kernel's states `hv` and `hc` are the table `T`. -/
def KInv (hv : FVec Ideal S17x32 .f32) (hc : FVec Ideal S34x32 .f32) (T : Table) : Prop :=
  (∀ s f, hv (ix2 s f) = T.hv s f) ∧ ∀ b s f, hc (ix2 (tabRow b s) f) = T.hc b s f

/-- The rows of the paired states are the table's. -/
theorem kPair_row {hv : FVec Ideal S17x32 .f32} {hc : FVec Ideal S34x32 .f32} {T : Table} (h : KInv hv hc T) (b : Bool) (s : Fin 17) :
    (fun k => kPair hv hc (ix2 (tabRow b s) k)) = T.ends b s := by
  funext k
  rw [kPair_apply]
  simp only [h.1, h.2]
  rfl

theorem kHv_apply (W : KW Ideal) {hv : FVec Ideal S17x32 .f32} {hc : FVec Ideal S34x32 .f32} {T : Table} (h : KInv hv hc T)
    (s : Fin 17) (f : Fin 32) : kHv W hv hc (ix2 s f) = (W.net.next T).hv s f := by
  unfold kHv
  rw [kGru_apply]
  simp only [kMv_apply, kMlp_apply, kPair_row h, h.1]
  rfl

/-- The first 17 rows of 34 hold bit zero. -/
theorem slice_lo {n : ℕ} (x : FVec Ideal ⟨2, ![34, n]⟩ .f32) (hs : (⟨2, ![34, n]⟩ : Shape).Slices ![0, 0] ⟨2, ![17, n]⟩) (s : Fin 17) (f : Fin n) :
    extractStridedSlice ⟨2, ![17, n]⟩ ![0, 0] x hs (ix2 s f) = x (ix2 (tabRow false s) f) := by
  refine congrArg x (funext fun a => Fin.ext ?_)
  match a with
  | ⟨0, _⟩ => simp [tabRow, ix2]
  | ⟨1, _⟩ => simp [ix2]

/-- The last 17 rows of 34 hold bit one. -/
theorem slice_hi {n : ℕ} (x : FVec Ideal ⟨2, ![34, n]⟩ .f32) (hs : (⟨2, ![34, n]⟩ : Shape).Slices ![17, 0] ⟨2, ![17, n]⟩) (s : Fin 17) (f : Fin n) :
    extractStridedSlice ⟨2, ![17, n]⟩ ![17, 0] x hs (ix2 s f) = x (ix2 (tabRow true s) f) := by
  refine congrArg x (funext fun a => Fin.ext ?_)
  match a with
  | ⟨0, _⟩ => simp [tabRow, ix2]
  | ⟨1, _⟩ => simp [ix2]

theorem kHc_apply (W : KW Ideal) {hv : FVec Ideal S17x32 .f32} {hc : FVec Ideal S34x32 .f32} {T : Table} (h : KInv hv hc T)
    (b : Bool) (s : Fin 17) (f : Fin 32) : kHc W hv hc (ix2 (tabRow b s) f) = (W.net.next T).hc b s f := by
  cases b
  · trans kH0 W hv hc (ix2 s f)
    · pointwise [kHc, tabRow]
      simp
    · unfold kH0
      rw [kGru_apply]
      simp only [slice_lo, kMc_apply, kMlp_apply, kPair_row h, h.2]
      rfl
  · trans kH1 W hv hc (ix2 s f)
    · pointwise [kHc, tabRow]
    · unfold kH1
      rw [kGru_apply]
      simp only [slice_hi, kMc_apply, kMlp_apply, kPair_row h, h.2]
      rfl

/-- After `n` iterations the kernel's states are the table's. -/
theorem kIter_inv (W : KW Ideal) (n : ℕ) : KInv (kIter W n).1 (kIter W n).2 (W.net.table n) := by
  induction n with
  | zero =>
    refine ⟨fun s f => ?_, fun b s f => ?_⟩
    · show k0_pay3 (F := Ideal) (ix2 s f) = 0
      pointwise [k0_pay3]
    · show k0_pay4 (F := Ideal) (ix2 (tabRow b s) f) = 0
      pointwise [k0_pay4]
  | succ n ih => exact ⟨kHv_apply W ih, kHc_apply W ih⟩

end Cert.Decoder

end
-- ==== Proof.KLook.lean ====
/-
  The body's look-up read at one element: the row of the table that the number of ones selects.
-/
module

public import proofs.«01_k».proof.Proof.KBody
public import proofs.«01_k».proof.Proof.KIter

@[expose] public section

set_option maxRecDepth 16384

noncomputable section

open scoped BigOperators

namespace Cert.Decoder

open Idealize.ShloMosaic Cert.KernelIdeal Cert.KernelIdeal.Gen

/-- The look-up's weight of row `x` is one where the row's number is `s`, and zero elsewhere. -/
theorem hot (x s : Fin 17) :
    (FloatOps.sitofp .f32 (BitVec.setWidth 32 (BitVec.ofBool (decide
      ((FloatOps.sitofp .f32 (BitVec.ofNat 32 x.val) : Ideal .f32) = ((s.val : ℝ) : EReal))))) : Ideal .f32)
      = if x = s then 1 else 0 := by
  have e : (FloatOps.sitofp .f32 (BitVec.ofNat 32 x.val) : Ideal .f32) = ((x.val : ℝ) : EReal) :=
    sitofp_nat _ (by have := x.isLt; omega)
  rw [e]
  by_cases h : x = s
  · subst h
    simp only [decide_true, if_true]
    exact (sitofp_nat 1 (by norm_num)).trans (by norm_num)
  · have hn : ¬ ((x.val : ℝ) : EReal) = ((s.val : ℝ) : EReal) := by
      intro hc
      exact h (Fin.ext (by exact_mod_cast hc))
    simp only [hn, decide_false, if_neg h]
    exact (sitofp_nat 0 (by norm_num)).trans (by norm_num)

/-- Where a column of the mask sums to `s`, the look-up takes row `s`. -/
theorem kLook_apply (T : FVec Ideal S17x6 .f32) (mask : Vec Ideal S16x1024 .f32) (t : Fin 6) (v : Fin 32) (b : Fin 1024) (s : Fin 17)
    (h : ∑ c : Fin 16, mask (ix2 c b) = ((s.val : ℝ) : EReal)) : kLook T mask (ix3 t v b) = T (ix2 s t) := by
  pointwise [kLook]
  rw [h]
  simp only [hot, mul_ite, mul_one, mul_zero, Finset.sum_ite_eq', Finset.mem_univ, if_true]

/-- The predictions after iteration `n`, counted from zero. -/
theorem kLlr_iter (W : KW Ideal) (n : ℕ) (s : Fin 17) (q : Fin 1) : kLlr W (kIter W (n + 1)).1 (ix2 s q) = W.net.llr n s := by
  obtain rfl : q = 0 := Subsingleton.elim _ _
  rw [kLlr_apply]
  unfold Net.llr
  congr 1
  funext k
  exact (kIter_inv W (n + 1)).1 s k

/-- The table of predictions at one element. -/
theorem kTable_apply (W : KW Ideal) (s : Fin 17) (t : Fin 6) : kTable W (ix2 s t) = W.net.llr t.val s := by
  pointwise [kTable]
  simp only [kLlr_iter]
  obtain ⟨t, ht⟩ := t
  interval_cases t <;> rfl

/-- What the body stores at one element, the weights and the mask as loaded. -/
theorem kOut_apply (W : KW Ideal) (mask : Vec Ideal S16x1024 .f32) (t : Fin 6) (v : Fin 32) (b : Fin 1024) (s : Fin 17)
    (h : ∑ c : Fin 16, mask (ix2 c b) = ((s.val : ℝ) : EReal)) : kLook (kTable W) mask (ix3 t v b) = W.net.llr t.val s := by
  rw [kLook_apply _ _ _ _ _ s h, kTable_apply]

end Cert.Decoder

end
-- ==== Proof.KRun.lean ====
/-
  What the kernel's launch leaves in its result array. Every window is a whole array at block index zero, so each input block
  is its array's contents at the launch, and the one grid point writes the whole result array.
-/
module

public import proofs.«01_k».proof.Proof.KLook
public import proofs.«01_k».proof.Proof.KBody
public import proofs.«01_k».proof.Proof.Gen.KernelIdeal.Run
public import Idealize.ShloMosaic.Lib.Pipeline.ValueKit

@[expose] public section

set_option maxRecDepth 16384

noncomputable section

namespace Cert.Decoder

open Idealize.ShloMosaic Cert.KernelIdeal Cert.KernelIdeal.Gen

variable {F : FTy → Type} [FloatOps F]
variable (m : (ℓ : Loc nD τ sig) → Buf (Elt F) ℓ) (c : Dev nD)

/-- The block of a window that is a whole array, read off the array's contents, is those contents. -/
theorem read_whole {i : Fin (sig.nNear .tc .hbm)} {hn : sig.names .tc .hbm i = true} {cs : CoreSpace} {io sy : Bool}
    {stage : Memref sig .tc (.core cs) ⟨_, (⟨.hbm, i, hn⟩ : Ref sig .tc).ty.shape.size⟩ (⟨.hbm, i, hn⟩ : Ref sig .tc).ty.elt}
    {sem : DmaSem sig} (hs : stage.IsWhole)
    (t : Fin Pipeline.Grid.none.N) (f : (⟨.hbm, i, hn⟩ : Ref sig .tc).ty.Contents (Elt F)) :
    ((Pipeline.Window.whole (Memref.whole (⟨.hbm, i, hn⟩ : Ref sig .tc)) io sy stage sem (Memref.isWhole_whole _) hs).blk t).view.read
      (Elt F) f = f :=
  Memref.read_access_unit_zero (Elt F) _ (funext fun a => Nat.zero_mul _) _ f

theorem iblk_0 (t : Fin cfg0.N) : iblk m c 0 t = V m c main_call0_v3 := read_whole (hstage0_0 0) t _
theorem iblk_1 (t : Fin cfg0.N) : iblk m c 1 t = V m c main_arg3 := read_whole (hstage0_1 0) t _
theorem iblk_2 (t : Fin cfg0.N) : iblk m c 2 t = V m c main_call0_v4 := read_whole (hstage0_2 0) t _
theorem iblk_3 (t : Fin cfg0.N) : iblk m c 3 t = V m c main_arg5 := read_whole (hstage0_3 0) t _
theorem iblk_4 (t : Fin cfg0.N) : iblk m c 4 t = V m c main_call0_v5 := read_whole (hstage0_4 0) t _
theorem iblk_5 (t : Fin cfg0.N) : iblk m c 5 t = V m c main_arg7 := read_whole (hstage0_5 0) t _
theorem iblk_6 (t : Fin cfg0.N) : iblk m c 6 t = V m c main_call0_v6 := read_whole (hstage0_6 0) t _
theorem iblk_7 (t : Fin cfg0.N) : iblk m c 7 t = V m c main_arg9 := read_whole (hstage0_7 0) t _
theorem iblk_8 (t : Fin cfg0.N) : iblk m c 8 t = V m c main_call0_v7 := read_whole (hstage0_8 0) t _
theorem iblk_9 (t : Fin cfg0.N) : iblk m c 9 t = V m c main_call0_v8 := read_whole (hstage0_9 0) t _
theorem iblk_10 (t : Fin cfg0.N) : iblk m c 10 t = V m c main_call0_v9 := read_whole (hstage0_10 0) t _
theorem iblk_11 (t : Fin cfg0.N) : iblk m c 11 t = V m c main_call0_v10 := read_whole (hstage0_11 0) t _
theorem iblk_12 (t : Fin cfg0.N) : iblk m c 12 t = V m c main_call0_v11 := read_whole (hstage0_12 0) t _
theorem iblk_13 (t : Fin cfg0.N) : iblk m c 13 t = V m c main_call0_v12 := read_whole (hstage0_13 0) t _
theorem iblk_14 (t : Fin cfg0.N) : iblk m c 14 t = V m c main_call0_v13 := read_whole (hstage0_14 0) t _
theorem iblk_15 (t : Fin cfg0.N) : iblk m c 15 t = V m c main_call0_v14 := read_whole (hstage0_15 0) t _
theorem iblk_16 (t : Fin cfg0.N) : iblk m c 16 t = V m c main_call0_v15 := read_whole (hstage0_16 0) t _
theorem iblk_17 (t : Fin cfg0.N) : iblk m c 17 t = V m c main_call0_v16 := read_whole (hstage0_17 0) t _
theorem iblk_18 (t : Fin cfg0.N) : iblk m c 18 t = V m c main_call0_v17 := read_whole (hstage0_18 0) t _
theorem iblk_19 (t : Fin cfg0.N) : iblk m c 19 t = V m c main_call0_v18 := read_whole (hstage0_19 0) t _
theorem iblk_20 (t : Fin cfg0.N) : iblk m c 20 t = V m c main_call0_v19 := read_whole (hstage0_20 0) t _
theorem iblk_21 (t : Fin cfg0.N) : iblk m c 21 t = V m c main_arg23 := read_whole (hstage0_21 0) t _
theorem iblk_22 (t : Fin cfg0.N) : iblk m c 22 t = V m c main_call0_v20 := read_whole (hstage0_22 0) t _

/-- The weights as the launch finds them. -/
def entryW : KW F := ⟨V m c main_arg3, V m c main_call0_v4, V m c main_arg5, V m c main_call0_v5, V m c main_arg7, V m c main_call0_v6, V
    m c main_arg9, V m c main_call0_v7, V m c main_call0_v8, V m c main_call0_v9, V m c main_call0_v10, V m c main_call0_v11, V m c
    main_call0_v12, V m c main_call0_v13, V m c main_call0_v14, V m c main_call0_v15, V m c main_call0_v16, V m c main_call0_v17, V m c
    main_call0_v18, V m c main_call0_v19, V m c main_arg23, V m c main_call0_v20⟩

theorem zero2 : (![0, 0] : Fin 2 → ℕ) = fun _ => 0 := by decide

theorem zero3 : (![0, 0, 0] : Fin 3 → ℕ) = fun _ => 0 := by decide

/-- A load of a whole two-axis array is the array. -/
theorem ld_whole {e : EltTy} (p q : ℕ) (inb) (X : (⟨2, ![p, q]⟩ : Shape).Idx → Elt F e) :
    View.ld X (Rect.unit (s := ⟨2, ![p, q]⟩) ![0, 0] (⟨2, ![p, q]⟩ : Shape).size inb) = X :=
  View.ld_unit_zero (S := ⟨2, ![p, q]⟩) zero2 inb X

/-- The body's loads of the weights give the weights as the launch finds them. -/
theorem ldW_entry : ldW (V m c main_arg3) (V m c main_call0_v4) (V m c main_arg5) (V m c main_call0_v5) (V m c main_arg7) (V m c
    main_call0_v6) (V m c main_arg9) (V m c main_call0_v7) (V m c main_call0_v8) (V m c main_call0_v9) (V m c main_call0_v10) (V m c
    main_call0_v11) (V m c main_call0_v12) (V m c main_call0_v13) (V m c main_call0_v14) (V m c main_call0_v15) (V m c main_call0_v16) (V
    m c main_call0_v17) (V m c main_call0_v18) (V m c main_call0_v19) (V m c main_arg23) (V m c main_call0_v20) = entryW m c := by
  unfold ldW entryW
  simp only [ld_whole]

/-- The result array after the launch is the look-up in the table of predictions, at the weights and the mask as the
    launch finds them. -/
theorem reg_eq : Cert.KernelIdeal.Value.reg_main_call0_v21 m c = kLook (kTable (entryW m c)) (V m c main_call0_v3) := by
  unfold Cert.KernelIdeal.Value.reg_main_call0_v21
  refine (dats m 0 c).arrAt_eq_of_after_last 23 t0_0 (by decide +kernel) _ fun j => ?_
  blk_simp
  rw [after0_23, out_eq, iblk_0, iblk_1, iblk_2, iblk_3, iblk_4, iblk_5, iblk_6, iblk_7, iblk_8, iblk_9, iblk_10, iblk_11, iblk_12,
      iblk_13, iblk_14, iblk_15, iblk_16, iblk_17, iblk_18, iblk_19, iblk_20, iblk_21, iblk_22, ldW_entry,
    ld_whole, View.canon_unit_zero (S := S6x32x1024) zero3]

end Cert.Decoder

end
-- ==== Proof.Args.lean ====
/-
  The decoder's weights and syndromes read off the argument arrays. Both programs take the same arrays, so both sides of the
  proof state their result by `Net.ofArgs`, `bit` and `ones`.
-/
module

public import proofs.«01_k».proof.Proof.Spec
public import Idealize.ShloMosaic.Lib.Pointwise

@[expose] public section

noncomputable section

open scoped BigOperators

namespace Cert.Decoder

open Idealize.ShloMosaic

/-- A message network's weights read off their four arrays. -/
def Mlp.ofArgs (w1 : FVec Ideal ⟨2, ![64, 32]⟩ .f32) (b1 : FVec Ideal ⟨1, ![32]⟩ .f32) (w2 : FVec Ideal ⟨2, ![32, 16]⟩ .f32)
    (b2 : FVec Ideal ⟨1, ![16]⟩ .f32) : Mlp where
  w1 k j := w1 (ix2 k j)
  b1 j := b1 (ix1 j)
  w2 j e := w2 (ix2 j e)
  b2 e := b2 (ix1 e)

/-- A recurrent unit's weights read off their four arrays. -/
def Gru.ofArgs (wih : FVec Ideal ⟨2, ![96, 16]⟩ .f32) (whh : FVec Ideal ⟨2, ![96, 32]⟩ .f32) (bih bhh : FVec Ideal ⟨1, ![96]⟩ .f32) :
    Gru where
  wih g k := wih (ix2 g k)
  bih g := bih (ix1 g)
  whh g k := whh (ix2 g k)
  bhh g := bhh (ix1 g)

/-- All the weights read off their arrays. -/
def Net.ofArgs (a3 : FVec Ideal ⟨2, ![64, 32]⟩ .f32) (a4 : FVec Ideal ⟨1, ![32]⟩ .f32) (a5 : FVec Ideal ⟨2, ![32, 16]⟩ .f32)
    (a6 : FVec Ideal ⟨1, ![16]⟩ .f32) (a7 : FVec Ideal ⟨2, ![64, 32]⟩ .f32) (a8 : FVec Ideal ⟨1, ![32]⟩ .f32)
    (a9 : FVec Ideal ⟨2, ![32, 16]⟩ .f32) (a10 : FVec Ideal ⟨1, ![16]⟩ .f32)
    (a11 : FVec Ideal ⟨2, ![96, 16]⟩ .f32) (a12 : FVec Ideal ⟨2, ![96, 32]⟩ .f32) (a13 a14 : FVec Ideal ⟨1, ![96]⟩ .f32)
    (a15 : FVec Ideal ⟨2, ![96, 16]⟩ .f32) (a16 : FVec Ideal ⟨2, ![96, 32]⟩ .f32) (a17 a18 : FVec Ideal ⟨1, ![96]⟩ .f32)
    (a19 : FVec Ideal ⟨2, ![96, 16]⟩ .f32) (a20 : FVec Ideal ⟨2, ![96, 32]⟩ .f32) (a21 a22 : FVec Ideal ⟨1, ![96]⟩ .f32)
    (a23 : FVec Ideal ⟨2, ![32, 1]⟩ .f32) (a24 : FVec Ideal ⟨1, ![1]⟩ .f32) : Net where
  v2c := Mlp.ofArgs a3 a4 a5 a6
  c2v := Mlp.ofArgs a7 a8 a9 a10
  gv := Gru.ofArgs a11 a12 a13 a14
  gc b := if b then Gru.ofArgs a19 a20 a21 a22 else Gru.ofArgs a15 a16 a17 a18
  pw k := a23 (ix2 k 0)
  pb := a24 (ix1 0)

/-- Syndrome bit `c` of batch row `b`. -/
def bit (syn : IVec ⟨2, ![1024, 16]⟩ 32) (b : Fin 1024) (c : Fin 16) : Bool := decide (syn (ix2 b c) = 1#32)

/-- The number of ones in the syndrome of batch row `b`. -/
def ones (syn : IVec ⟨2, ![1024, 16]⟩ 32) (b : Fin 1024) : Fin 17 :=
  ⟨(Finset.univ.filter fun c : Fin 16 => bit syn b c = true).card,
    Nat.lt_succ_of_le (by simpa using Finset.card_le_univ (Finset.univ.filter fun c : Fin 16 => bit syn b c = true))⟩

/-- A sum of zeros and ones over the syndrome's bits is the number of ones. -/
theorem sum_bits (syn : IVec ⟨2, ![1024, 16]⟩ 32) (b : Fin 1024) :
    (∑ c : Fin 16, if bit syn b c = true then (1 : EReal) else 0) = (((ones syn b).val : ℝ) : EReal) := by
  rw [← Finset.sum_filter, Finset.sum_const, EReal.nsmul_eq_mul, mul_one]
  rfl

/-- A sum over the checks of a value that depends on the syndrome bit alone. -/
theorem sum_by_bit (syn : IVec ⟨2, ![1024, 16]⟩ 32) (b : Fin 1024) (f : Bool → EReal) :
    ∑ c : Fin 16, f (bit syn b c)
      = (((16 : ℝ) : EReal) - (((ones syn b).val : ℝ) : EReal)) * f false + (((ones syn b).val : ℝ) : EReal) * f true := by
  have h : ∀ c : Fin 16, f (bit syn b c) = if bit syn b c = true then f true else f false := by
    intro c
    cases bit syn b c <;> rfl
  simp only [h]
  have hc := Finset.card_filter_add_card_filter_not (s := (Finset.univ : Finset (Fin 16))) (fun c => bit syn b c = true)
  rw [Finset.sum_ite, Finset.sum_const, Finset.sum_const, EReal.nsmul_eq_mul, EReal.nsmul_eq_mul, add_comm]
  have e : (((16 : ℝ) : EReal) - (((ones syn b).val : ℝ) : EReal))
      = (((Finset.univ.filter fun c : Fin 16 => ¬ bit syn b c = true).card : ℝ) : EReal) := by
    rw [← EReal.coe_sub]
    congr 1
    have hc' : ((Finset.univ.filter fun c : Fin 16 => bit syn b c = true).card : ℝ)
        + ((Finset.univ.filter fun c : Fin 16 => ¬ bit syn b c = true).card : ℝ) = 16 := by
      exact_mod_cast hc
    rw [← hc']
    exact add_sub_cancel_left _ _
  rw [e]
  rfl

/-- A sum of 32 equal terms. -/
theorem sum_const32 (x : EReal) : (∑ _v : Fin 32, x) = ((32 : ℝ) : EReal) * x := by
  rw [Finset.sum_const, EReal.nsmul_eq_mul]
  rfl

end Cert.Decoder

end
-- ==== Proof.KArgs.lean ====
/-
  The weights and the mask that the kernel's launch finds, read off the argument arrays, and the kernel's result at one element.
-/
module

public import proofs.«01_k».proof.Proof.KRun
public import proofs.«01_k».proof.Proof.Args
public import Idealize.ShloMosaic.Lib.StableHlo.Run

@[expose] public section

set_option maxRecDepth 16384

noncomputable section

open scoped BigOperators

namespace Cert.Decoder

open Idealize.ShloMosaic Cert.KernelIdeal Cert.KernelIdeal.Gen

variable (m : (ℓ : Loc nD τ sig) → Buf (Elt Ideal) ℓ) (c : Dev nD)

/-- The kernel's argument arrays as a network. -/
def kNet : Net :=
  Net.ofArgs (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) (m ((c.tc : Thread nD τ).loc main_arg8))
    (m ((c.tc : Thread nD τ).loc main_arg9)) (m ((c.tc : Thread nD τ).loc main_arg10))
    (m ((c.tc : Thread nD τ).loc main_arg11)) (m ((c.tc : Thread nD τ).loc main_arg12))
    (m ((c.tc : Thread nD τ).loc main_arg13)) (m ((c.tc : Thread nD τ).loc main_arg14))
    (m ((c.tc : Thread nD τ).loc main_arg15)) (m ((c.tc : Thread nD τ).loc main_arg16))
    (m ((c.tc : Thread nD τ).loc main_arg17)) (m ((c.tc : Thread nD τ).loc main_arg18))
    (m ((c.tc : Thread nD τ).loc main_arg19)) (m ((c.tc : Thread nD τ).loc main_arg20))
    (m ((c.tc : Thread nD τ).loc main_arg21)) (m ((c.tc : Thread nD τ).loc main_arg22))
    (m ((c.tc : Thread nD τ).loc main_arg23)) (m ((c.tc : Thread nD τ).loc main_arg24))

/-- A message network found at the launch is that of its arrays, whose biases are reshaped to one row. -/
theorem mlpOf_reshape (w1 : FVec Ideal S64x32 .f32) (b1 : FVec Ideal S32 .f32) (w2 : FVec Ideal S32x16 .f32) (b2 : FVec Ideal S16 .f32) :
    mlpOf w1 (shapeCast S1x32 b1 shapeCasts_S32_S1x32) w2 (shapeCast S1x16 b2 shapeCasts_S16_S1x16) = Mlp.ofArgs w1 b1 w2 b2 := by
  unfold mlpOf Mlp.ofArgs
  congr 1
  · funext j
    pointwise
  · funext e
    pointwise

/-- A recurrent unit found at the launch is that of its arrays, whose weights are transposed and biases reshaped to one row. -/
theorem gruOf_transpose (wih : FVec Ideal S96x16 .f32) (whh : FVec Ideal S96x32 .f32) (bih bhh : FVec Ideal S96 .f32) :
    gruOf (transpose S16x96 [1, 0] wih transposes_S96x16_S16x96_1_0) (transpose S32x96 [1, 0] whh transposes_S96x32_S32x96_1_0)
      (shapeCast S1x96 bih shapeCasts_S96_S1x96) (shapeCast S1x96 bhh shapeCasts_S96_S1x96) = Gru.ofArgs wih whh bih bhh := by
  unfold gruOf Gru.ofArgs
  congr 1
  · funext g k
    pointwise
  · funext g
    pointwise
  · funext g k
    pointwise
  · funext g
    pointwise

/-- The prediction layer's bias found at the launch is that of its array, which is reshaped to one row. -/
theorem pb_reshape (b : FVec Ideal S1 .f32) : shapeCast S1x1 b shapeCasts_S1_S1x1 (ix2 0 0) = b (ix1 0) := by
  pointwise

/-- The weights found at the launch, as the host operations before it make them from the argument arrays. -/
theorem entryW_eq : entryW m c =
    ⟨m ((c.tc : Thread nD τ).loc main_arg3),
      shapeCast S1x32 (m ((c.tc : Thread nD τ).loc main_arg4)) shapeCasts_S32_S1x32,
      m ((c.tc : Thread nD τ).loc main_arg5),
      shapeCast S1x16 (m ((c.tc : Thread nD τ).loc main_arg6)) shapeCasts_S16_S1x16,
      m ((c.tc : Thread nD τ).loc main_arg7),
      shapeCast S1x32 (m ((c.tc : Thread nD τ).loc main_arg8)) shapeCasts_S32_S1x32,
      m ((c.tc : Thread nD τ).loc main_arg9),
      shapeCast S1x16 (m ((c.tc : Thread nD τ).loc main_arg10)) shapeCasts_S16_S1x16,
      transpose S16x96 [1, 0] (m ((c.tc : Thread nD τ).loc main_arg11)) transposes_S96x16_S16x96_1_0,
      transpose S32x96 [1, 0] (m ((c.tc : Thread nD τ).loc main_arg12)) transposes_S96x32_S32x96_1_0,
      shapeCast S1x96 (m ((c.tc : Thread nD τ).loc main_arg13)) shapeCasts_S96_S1x96,
      shapeCast S1x96 (m ((c.tc : Thread nD τ).loc main_arg14)) shapeCasts_S96_S1x96,
      transpose S16x96 [1, 0] (m ((c.tc : Thread nD τ).loc main_arg15)) transposes_S96x16_S16x96_1_0,
      transpose S32x96 [1, 0] (m ((c.tc : Thread nD τ).loc main_arg16)) transposes_S96x32_S32x96_1_0,
      shapeCast S1x96 (m ((c.tc : Thread nD τ).loc main_arg17)) shapeCasts_S96_S1x96,
      shapeCast S1x96 (m ((c.tc : Thread nD τ).loc main_arg18)) shapeCasts_S96_S1x96,
      transpose S16x96 [1, 0] (m ((c.tc : Thread nD τ).loc main_arg19)) transposes_S96x16_S16x96_1_0,
      transpose S32x96 [1, 0] (m ((c.tc : Thread nD τ).loc main_arg20)) transposes_S96x32_S32x96_1_0,
      shapeCast S1x96 (m ((c.tc : Thread nD τ).loc main_arg21)) shapeCasts_S96_S1x96,
      shapeCast S1x96 (m ((c.tc : Thread nD τ).loc main_arg22)) shapeCasts_S96_S1x96,
      m ((c.tc : Thread nD τ).loc main_arg23),
      shapeCast S1x1 (m ((c.tc : Thread nD τ).loc main_arg24)) shapeCasts_S1_S1x1⟩ := by
  unfold entryW
  congr 1
  all_goals
    simp only [V, V0, hostOps0, StableHlo.TRef.unary, StableHlo.TRef.nullary, StableHlo.TRef.binary, StableHlo.TRef.reshape,
      StableHlo.TRef.toBuf, StableHlo.TRef.ofBuf, cast_eq, List.flatten_cons, List.flatten_nil, List.append_nil, List.cons_append,
      List.nil_append]
    after_results

/-- The weights found at the launch are those of the argument arrays. -/
theorem entry_net : (entryW m c).net = kNet m c := by
  rw [entryW_eq]
  unfold KW.net kNet Net.ofArgs
  congr 1
  · exact mlpOf_reshape _ _ _ _
  · exact mlpOf_reshape _ _ _ _
  · exact gruOf_transpose _ _ _ _
  · funext b
    cases b
    · exact gruOf_transpose _ _ _ _
    · exact gruOf_transpose _ _ _ _
  · exact pb_reshape _

/-- The mask found at the launch, as the host operations before it make it from the syndromes. -/
theorem mask_eq : V m c main_call0_v3 = uitofp (F := Ideal) .f32 (cmpi .eq
    (transpose S16x1024 [1, 0] (m ((c.tc : Thread nD τ).loc main_arg0)) transposes_S1024x16_S16x1024_1_0)
    (broadcastInDim S16x1024 ![] bcast_S_S16x1024 (constantI S_ 32 1#32))) := by
  simp only [V, V0, hostOps0, StableHlo.TRef.unary, StableHlo.TRef.nullary, StableHlo.TRef.binary, StableHlo.TRef.reshape,
    StableHlo.TRef.toBuf, StableHlo.TRef.ofBuf, cast_eq, List.flatten_cons, List.flatten_nil, List.append_nil, List.cons_append,
    List.nil_append]
  after_results

/-- The number that a comparison with one becomes. -/
theorem uitofp_cmp_one (x : BitVec 32) :
    (FloatOps.uitofp .f32 (IntOp.cmpi .eq x 1#32) : Ideal .f32) = if decide (x = 1#32) = true then 1 else 0 := by
  have e : IntOp.cmpi .eq x 1#32 = BitVec.ofBool (decide (x = 1#32)) := by
    simp only [IntOp.cmpi]
    rfl
  rw [e]
  show ((((BitVec.ofBool (decide (x = 1#32))).toNat : ℕ) : ℝ) : EReal) = _
  cases decide (x = 1#32)
  · exact congrArg (fun r : ℝ => (r : EReal)) Nat.cast_zero
  · exact congrArg (fun r : ℝ => (r : EReal)) Nat.cast_one

/-- The mask as the launch finds it. -/
def entryMask : FVec Ideal S16x1024 .f32 := V m c main_call0_v3

/-- Element `(c, b)` of the mask found at the launch is one where syndrome bit `c` of batch row `b` is set. -/
theorem mask_apply (k : Fin 16) (b : Fin 1024) :
    entryMask m c (ix2 k b) = if bit (m ((c.tc : Thread nD τ).loc main_arg0)) b k = true then (1 : EReal) else 0 := by
  unfold entryMask bit
  rw [mask_eq]
  pointwise
  exact uitofp_cmp_one _

/-- The kernel's result at variable `v`, batch row `b` and iteration `t` is the table's prediction for the number of ones in
    the row's syndrome. -/
theorem kernel_apply (v : Fin 32) (b : Fin 1024) (t : Fin 6) :
    transpose S32x1024x6 [1, 2, 0] (Cert.KernelIdeal.Value.reg_main_call0_v21 m c) transposes_S6x32x1024_S32x1024x6_1_2_0 (ix3 v b t)
      = (kNet m c).llr t.val (ones (m ((c.tc : Thread nD τ).loc main_arg0)) b) := by
  have h : ∑ k : Fin 16, entryMask m c (ix2 k b) = (((ones (m ((c.tc : Thread nD τ).loc main_arg0)) b).val : ℝ) : EReal) := by
    rw [← sum_bits]
    exact Finset.sum_congr rfl fun k _ => mask_apply m c k b
  rw [reg_eq, ← entry_net, ← kOut_apply (entryW m c) (entryMask m c) t v b _ h]
  unfold entryMask
  pointwise

end Cert.Decoder

end
-- ==== Proof.Edges.lean ====
/-
  Gathers and scatters over the 512 edges, read at one element: a gather reads the row that its index names, and a scatter
  adds up the updates of the edges whose index names the row.
-/
module

public import Idealize.ShloMosaic.Lib.Pointwise
public import Idealize.ShloMosaic.Lib.Routing.OpsPair

@[expose] public section

noncomputable section

open scoped BigOperators

namespace Cert.Decoder

open Idealize.ShloMosaic

/-- The dimension numbers of a gather of `N` rows of 32 features along the 512 edges. -/
abbrev edgeGather (N : ℕ) (wf : GatherDims.WF ⟨3, ![1024, N, 32]⟩ ⟨2, ![512, 1]⟩ ⟨3, ![1024, 512, 32]⟩ [0, 2] [1] [] [1] [] 1 ![1024, 1, 32]) :
    GatherDims ⟨3, ![1024, N, 32]⟩ ⟨2, ![512, 1]⟩ ⟨3, ![1024, 512, 32]⟩ where
  offsetDims := [0, 2]
  collapsedSliceDims := [1]
  operandBatchingDims := []
  startIndicesBatchingDims := []
  startIndexMap := [1]
  indexVectorDim := 1
  sliceSizes := ![1024, 1, 32]
  wf := wf

/-- Where edge `e`'s index names row `k`, the gather at edge `e` is row `k`. -/
theorem edgeGather_apply {α : Type} {N : ℕ} (wf) (x : (⟨3, ![1024, N, 32]⟩ : Shape).Idx → α) (idx : IVec ⟨2, ![512, 1]⟩ 32)
    (b : Fin 1024) (e : Fin 512) (f : Fin 32) (k : Fin N) (h : (idx (ix2 e 0)).toInt = k.val) :
    Host.gather (edgeGather N wf) x idx (ix3 b e f) = x (ix3 b k f) := by
  unfold Host.gather
  congr 1
  funext a
  apply Fin.ext
  show (edgeGather N wf).start (ix3 b e f) idx a + (edgeGather N wf).batchCoord (ix3 b e f) a + (edgeGather N wf).offCoord (ix3 b e f) a = _
  rw [GatherDims.batchCoord_eq_zero _ _ _ List.not_mem_nil]
  match a with
  | ⟨0, _⟩ =>
    have h0 : (edgeGather N wf).start (ix3 b e f) idx (0 : Fin 3) = 0 := rfl
    have h1 : (edgeGather N wf).offCoord (ix3 b e f) (0 : Fin 3) = b.val := rfl
    exact (congrArg₂ (fun p q => p + 0 + q) h0 h1).trans (by simp)
  | ⟨1, _⟩ =>
    have hsi : (edgeGather N wf).siIdx (ix3 b e f) ⟨0, Nat.one_pos⟩ = ix2 e 0 := by
      funext q
      apply Fin.ext
      match q with
      | ⟨0, _⟩ => rfl
      | ⟨1, _⟩ => rfl
    have h0 : (edgeGather N wf).start (ix3 b e f) idx (1 : Fin 3) = min (idx ((edgeGather N wf).siIdx (ix3 b e f) ⟨0, Nat.one_pos⟩)).toInt.toNat (N - 1) := rfl
    have h1 : (edgeGather N wf).offCoord (ix3 b e f) (1 : Fin 3) = 0 := rfl
    refine (congrArg₂ (fun p q => p + 0 + q) h0 h1).trans ?_
    rw [hsi, h]
    have := k.isLt
    show min ((k.val : ℤ)).toNat (N - 1) + 0 + 0 = k.val
    rw [Int.toNat_natCast]
    omega
  | ⟨2, _⟩ =>
    have h0 : (edgeGather N wf).start (ix3 b e f) idx (2 : Fin 3) = 0 := rfl
    have h1 : (edgeGather N wf).offCoord (ix3 b e f) (2 : Fin 3) = f.val := rfl
    exact (congrArg₂ (fun p q => p + 0 + q) h0 h1).trans (by simp)

/-- The dimension numbers of a scatter of the 512 edges' 16 features to `N` rows. -/
abbrev edgeScatter (N : ℕ) (wf : ScatterDims.WF ⟨3, ![1024, N, 16]⟩ ⟨2, ![512, 1]⟩ ⟨3, ![1024, 512, 16]⟩ [0, 2] [1] [1] 1) :
    ScatterDims ⟨3, ![1024, N, 16]⟩ ⟨2, ![512, 1]⟩ ⟨3, ![1024, 512, 16]⟩ where
  updateWindowDims := [0, 2]
  insertedWindowDims := [1]
  scatterDimsToOperandDims := [1]
  indexVectorDim := 1
  wf := wf

/-- The update at edge `e` lands at row `k` exactly when its index names that row and the other coordinates agree. -/
theorem edgeScatter_lands {N : ℕ} (wf) (idx : IVec ⟨2, ![512, 1]⟩ 32) (b b' : Fin 1024) (e : Fin 512) (f f' : Fin 16) (k : Fin N) :
    (edgeScatter N wf).resultIdx? (ix3 b' e f') idx = some (ix3 b k f) ↔ b' = b ∧ (idx (ix2 e 0)).toInt = k.val ∧ f' = f := by
  rw [Routing.resultIdx?_eq_some]
  have hsi : (edgeScatter N wf).siIdx (ix3 b' e f') ⟨0, Nat.one_pos⟩ = ix2 e 0 := by
    funext q
    apply Fin.ext
    match q with
    | ⟨0, _⟩ => rfl
    | ⟨1, _⟩ => rfl
  have s0 : (edgeScatter N wf).start (ix3 b' e f') idx (0 : Fin 3) = 0 := rfl
  have s1 : (edgeScatter N wf).start (ix3 b' e f') idx (1 : Fin 3) = (idx ((edgeScatter N wf).siIdx (ix3 b' e f') ⟨0, Nat.one_pos⟩)).toInt := rfl
  have s2 : (edgeScatter N wf).start (ix3 b' e f') idx (2 : Fin 3) = 0 := rfl
  have w0 : (edgeScatter N wf).window (ix3 b' e f') (0 : Fin 3) = b'.val := rfl
  have w1 : (edgeScatter N wf).window (ix3 b' e f') (1 : Fin 3) = 0 := rfl
  have w2 : (edgeScatter N wf).window (ix3 b' e f') (2 : Fin 3) = f'.val := rfl
  rw [hsi] at s1
  constructor
  · intro h
    have h0 := h (0 : Fin 3)
    have h1 := h (1 : Fin 3)
    have h2 := h (2 : Fin 3)
    rw [s0, w0] at h0
    rw [s1, w1] at h1
    rw [s2, w2] at h2
    change (0 : ℤ) + (b'.val : ℤ) = (b.val : ℤ) at h0
    change _ + ((0 : ℕ) : ℤ) = (k.val : ℤ) at h1
    change (0 : ℤ) + (f'.val : ℤ) = (f.val : ℤ) at h2
    exact ⟨Fin.ext (by omega), by omega, Fin.ext (by omega)⟩
  · rintro ⟨rfl, h1, rfl⟩ a
    match a with
    | ⟨0, _⟩ =>
      show (edgeScatter N wf).start (ix3 b' e f') idx (0 : Fin 3) + ((edgeScatter N wf).window (ix3 b' e f') (0 : Fin 3) : ℤ) = (b'.val : ℤ)
      rw [s0, w0]
      omega
    | ⟨1, _⟩ =>
      show (edgeScatter N wf).start (ix3 b' e f') idx (1 : Fin 3) + ((edgeScatter N wf).window (ix3 b' e f') (1 : Fin 3) : ℤ) = (k.val : ℤ)
      rw [s1, w1, h1]
      omega
    | ⟨2, _⟩ =>
      show (edgeScatter N wf).start (ix3 b' e f') idx (2 : Fin 3) + ((edgeScatter N wf).window (ix3 b' e f') (2 : Fin 3) : ℤ) = (f'.val : ℤ)
      rw [s2, w2]
      omega

/-- Where the edges landing at row `k` are exactly those that `g` lists, each once, the scatter adds their updates to row `k`. -/
theorem edgeScatter_apply {N M : ℕ} (wf) (x : FVec Ideal ⟨3, ![1024, N, 16]⟩ .f32) (idx : IVec ⟨2, ![512, 1]⟩ 32)
    (upd : FVec Ideal ⟨3, ![1024, 512, 16]⟩ .f32) (b : Fin 1024) (k : Fin N) (f : Fin 16) (g : Fin M → Fin 512)
    (inj : Function.Injective g) (h : ∀ e, (idx (ix2 e 0)).toInt = k.val ↔ ∃ m, g m = e) :
    Ideal.hostScatterAdd (edgeScatter N wf) x idx upd (ix3 b k f) = x (ix3 b k f) + ∑ m : Fin M, upd (ix3 b (g m) f) := by
  unfold Ideal.hostScatterAdd
  congr 1
  symm
  refine Finset.sum_bij (fun m _ => ix3 b (g m) f) ?_ ?_ ?_ ?_
  · intro m _
    exact Finset.mem_filter.mpr ⟨Finset.mem_univ _, (edgeScatter_lands wf idx b b (g m) f f k).mpr ⟨rfl, (h _).mpr ⟨m, rfl⟩, rfl⟩⟩
  · intro m _ m' _ hm
    exact inj (congrFun hm (1 : Fin 3))
  · intro j hj
    have hj := (Finset.mem_filter.mp hj).2
    have eta : j = ix3 (j (0 : Fin 3)) (j (1 : Fin 3)) (j (2 : Fin 3)) := by
      funext a
      match a with
      | ⟨0, _⟩ => rfl
      | ⟨1, _⟩ => rfl
      | ⟨2, _⟩ => rfl
    rw [eta] at hj
    obtain ⟨hb, he, hf⟩ := (edgeScatter_lands wf idx b _ _ f _ k).mp hj
    obtain ⟨m, hm⟩ := (h _).mp he
    refine ⟨m, Finset.mem_univ _, ?_⟩
    rw [eta, hm, hb, hf]
    rfl
  · intro m _
    rfl

/-- The check node of edge `e`. -/
def chk (e : Fin 512) : Fin 16 := ⟨e.val / 32, by omega⟩

/-- The variable node of edge `e`. -/
def var (e : Fin 512) : Fin 32 := ⟨e.val % 32, by omega⟩

/-- The edge between check node `c` and variable node `v`. -/
def edge (c : Fin 16) (v : Fin 32) : Fin 512 := ⟨c.val * 32 + v.val, by omega⟩

theorem chk_edge (c : Fin 16) (v : Fin 32) : chk (edge c v) = c := Fin.ext (by simp only [chk, edge]; omega)

theorem var_edge (c : Fin 16) (v : Fin 32) : var (edge c v) = v := Fin.ext (by simp only [var, edge]; omega)

theorem edge_chk_var (e : Fin 512) : edge (chk e) (var e) = e := Fin.ext (by simp only [chk, var, edge]; omega)

/-- A scatter along the edges' variable nodes: row `v` receives the updates of the 16 edges at variable node `v`. -/
theorem scatter_var (wf) (x : FVec Ideal ⟨3, ![1024, 32, 16]⟩ .f32) (idx : IVec ⟨2, ![512, 1]⟩ 32)
    (upd : FVec Ideal ⟨3, ![1024, 512, 16]⟩ .f32) (h : ∀ e, (idx (ix2 e 0)).toInt = (var e).val) (b : Fin 1024) (v : Fin 32) (f : Fin 16) :
    Ideal.hostScatterAdd (edgeScatter 32 wf) x idx upd (ix3 b v f) = x (ix3 b v f) + ∑ c : Fin 16, upd (ix3 b (edge c v) f) := by
  refine edgeScatter_apply wf x idx upd b v f (fun c => edge c v) (fun c c' hc => ?_) (fun e => ?_)
  · have hc : edge c v = edge c' v := hc
    rw [← chk_edge c v, ← chk_edge c' v, hc]
  · rw [h e]
    constructor
    · intro hv
      have hv : var e = v := Fin.ext (by exact_mod_cast hv)
      exact ⟨chk e, by rw [← hv, edge_chk_var]⟩
    · rintro ⟨c, rfl⟩
      rw [var_edge]

/-- A scatter along the edges' check nodes: row `c` receives the updates of the 32 edges at check node `c`. -/
theorem scatter_chk (wf) (x : FVec Ideal ⟨3, ![1024, 16, 16]⟩ .f32) (idx : IVec ⟨2, ![512, 1]⟩ 32)
    (upd : FVec Ideal ⟨3, ![1024, 512, 16]⟩ .f32) (h : ∀ e, (idx (ix2 e 0)).toInt = (chk e).val) (b : Fin 1024) (c f : Fin 16) :
    Ideal.hostScatterAdd (edgeScatter 16 wf) x idx upd (ix3 b c f) = x (ix3 b c f) + ∑ v : Fin 32, upd (ix3 b (edge c v) f) := by
  refine edgeScatter_apply wf x idx upd b c f (fun v => edge c v) (fun v v' hv => ?_) (fun e => ?_)
  · have hv : edge c v = edge c v' := hv
    rw [← var_edge c v, ← var_edge c v', hv]
  · rw [h e]
    constructor
    · intro hc
      have hc : chk e = c := Fin.ext (by exact_mod_cast hc)
      exact ⟨var e, by rw [← hc, edge_chk_var]⟩
    · rintro ⟨v, rfl⟩
      rw [chk_edge]

/-- A 32-bit number below 512 reads the same signed and unsigned. -/
theorem toInt_ofNat (k : ℕ) (h : k < 512) : (BitVec.ofNat 32 k).toInt = (k : ℤ) := by
  rw [BitVec.toInt_eq_toNat_of_lt (by rw [BitVec.toNat_ofNat]; omega), BitVec.toNat_ofNat]
  omega

/-- Wrapping a non-negative index below 512 leaves it. -/
theorem wrap_ofNat (k : ℕ) (h : k < 512) (a : BitVec 32) :
    Scalar.select (IntOp.cmpi .slt (BitVec.ofNat 32 k) 0#32) a (BitVec.ofNat 32 k) = BitVec.ofNat 32 k :=
  Routing.wrap_of_lt _ _ (by rw [BitVec.toNat_ofNat]; omega)

end Cert.Decoder

end
-- ==== Proof.RBody.lean ====
/-
  One trip of the reference read at one element: the messages, the units and the prediction of `Spec`, on the rows of the
  states that the trip starts from.
-/
module

public import proofs.«01_k».proof.Proof.Gen.ReferenceIdeal.Step
public import proofs.«01_k».proof.Proof.Args
public import proofs.«01_k».proof.Proof.Edges

@[expose] public section

set_option maxRecDepth 16384

noncomputable section

open scoped BigOperators

namespace Cert.Decoder

open Idealize.ShloMosaic Cert.ReferenceIdeal Cert.ReferenceIdeal.Gen Cert.ReferenceIdeal.Step

variable (j : ℕ) (s : Step.State Ideal)

/-- The endpoint arrays of the complete graph: edge `e` joins check `e / 32` and variable `e % 32`. -/
structure Complete : Prop where
  chk : ∀ e : Fin 512, (s.main_v6_0 : IVec S512 32) (ix1 e) = BitVec.ofNat 32 (chk e).val
  var : ∀ e : Fin 512, (s.main_v6_1 : IVec S512 32) (ix1 e) = BitVec.ofNat 32 (var e).val

/-- The index that a row of check states is fetched by. -/
theorem b7_apply (h : Complete s) (e : Fin 512) : ((b7 j s : IVec S512x1 32) (ix2 e 0)).toInt = (chk e).val := by
  have h1 : (b7 j s : IVec S512x1 32) (ix2 e 0) = Scalar.select (IntOp.cmpi .slt ((s.main_v6_0 : IVec S512 32) (ix1 e)) 0#32)
      ((b5 j s : IVec S512 32) (ix1 e)) ((s.main_v6_0 : IVec S512 32) (ix1 e)) := by
    pointwise [b7, b6, b2, b1, b0]
  have := (chk e).isLt
  rw [h1, h.chk e, wrap_ofNat _ (by omega), toInt_ofNat _ (by omega)]

/-- The index that a row of variable states is fetched by. -/
theorem b16_apply (h : Complete s) (e : Fin 512) : ((b16 j s : IVec S512x1 32) (ix2 e 0)).toInt = (var e).val := by
  have h1 : (b16 j s : IVec S512x1 32) (ix2 e 0) = Scalar.select (IntOp.cmpi .slt ((s.main_v6_1 : IVec S512 32) (ix1 e)) 0#32)
      ((b14 j s : IVec S512 32) (ix1 e)) ((s.main_v6_1 : IVec S512 32) (ix1 e)) := by
    pointwise [b16, b15, b11, b10, b9]
  have := (var e).isLt
  rw [h1, h.var e, wrap_ofNat _ (by omega), toInt_ofNat _ (by omega)]

/-- The state of the edge's check. -/
theorem b8_apply (h : Complete s) (b : Fin 1024) (e : Fin 512) (k : Fin 32) :
    (b8 j s : FVec Ideal S1024x512x32 .f32) (ix3 b e k) = (s.main_v6_26 : FVec Ideal S1024x16x32 .f32) (ix3 b (chk e) k) :=
  edgeGather_apply _ _ _ b e k (chk e) (b7_apply j s h e)

/-- The state of the edge's variable. -/
theorem b17_apply (h : Complete s) (b : Fin 1024) (e : Fin 512) (k : Fin 32) :
    (b17 j s : FVec Ideal S1024x512x32 .f32) (ix3 b e k) = (s.main_v6_27 : FVec Ideal S1024x32x32 .f32) (ix3 b (var e) k) :=
  edgeGather_apply _ _ _ b e k (var e) (b16_apply j s h e)

/-- The states of an edge's two ends in the trip's arrays. -/
def ends (b : Fin 1024) (c : Fin 16) (v : Fin 32) : Fin 64 → EReal :=
  pair (fun k => (s.main_v6_26 : FVec Ideal S1024x16x32 .f32) (ix3 b c k)) (fun k => (s.main_v6_27 : FVec Ideal S1024x32x32 .f32) (ix3 b v k))

/-- The edge's input to the message networks. -/
theorem b18_apply (h : Complete s) (b : Fin 1024) (e : Fin 512) (k : Fin 64) :
    (b18 j s : FVec Ideal S1024x512x64 .f32) (ix3 b e k) = ends s b (chk e) (var e) k := by
  have h1 : (b18 j s : FVec Ideal S1024x512x64 .f32) (ix3 b e k)
      = pair (fun k => (b8 j s : FVec Ideal S1024x512x32 .f32) (ix3 b e k)) (fun k => (b17 j s : FVec Ideal S1024x512x32 .f32) (ix3 b e k)) k := by
    pointwise [b18, pair]
  rw [h1]
  simp only [b8_apply j s h, b17_apply j s h]
  rfl

/-- The message of an edge to its check. -/
theorem b29_apply (h : Complete s) (b : Fin 1024) (e : Fin 512) (k : Fin 16) : (b29 j s : FVec Ideal S1024x512x16 .f32) (ix3 b e k)
    = (Mlp.ofArgs s.main_v6_2 s.main_v6_3 s.main_v6_4 s.main_v6_5).out (ends s b (chk e) (var e)) k := by
  have h1 : (b29 j s : FVec Ideal S1024x512x16 .f32) (ix3 b e k)
      = (Mlp.ofArgs s.main_v6_2 s.main_v6_3 s.main_v6_4 s.main_v6_5).out (fun i => (b18 j s : FVec Ideal S1024x512x64 .f32) (ix3 b e i)) k := by
    pointwise [b29, b28, b27, b26, b25, b24, b23, b22, b21, b20, b19, Mlp.out, Mlp.ofArgs]
  rw [h1]
  exact congrArg (fun x => Mlp.out _ x k) (funext fun i => b18_apply j s h b e i)

/-- The trip's state with the weights of the other message network in the first one's place. -/
abbrev swapMlp : Step.State Ideal :=
  { s with main_v6_2 := s.main_v6_6, main_v6_3 := s.main_v6_7, main_v6_4 := s.main_v6_8, main_v6_5 := s.main_v6_9 }

/-- The message of an edge to its variable. -/
theorem b40_apply (h : Complete s) (b : Fin 1024) (e : Fin 512) (k : Fin 16) : (b40 j s : FVec Ideal S1024x512x16 .f32) (ix3 b e k)
    = (Mlp.ofArgs s.main_v6_6 s.main_v6_7 s.main_v6_8 s.main_v6_9).out (ends s b (chk e) (var e)) k :=
  b29_apply j (swapMlp s) ⟨h.chk, h.var⟩ b e k

/-- What a variable receives. -/
theorem b51_apply (h : Complete s) (b : Fin 1024) (v : Fin 32) (k : Fin 16) : (b51 j s : FVec Ideal S1024x32x16 .f32) (ix3 b v k)
    = ∑ c : Fin 16, (Mlp.ofArgs s.main_v6_6 s.main_v6_7 s.main_v6_8 s.main_v6_9).out (ends s b c v) k := by
  have h0 : (b42 j s : FVec Ideal S1024x32x16 .f32) (ix3 b v k) = 0 := by pointwise [b42, b41]
  have h1 : (b51 j s : FVec Ideal S1024x32x16 .f32) (ix3 b v k) = (b42 j s : FVec Ideal S1024x32x16 .f32) (ix3 b v k)
      + ∑ c : Fin 16, (b40 j s : FVec Ideal S1024x512x16 .f32) (ix3 b (edge c v) k) :=
    scatter_var _ _ _ _ (b16_apply j s h) b v k
  rw [h1, h0, zero_add]
  refine Finset.sum_congr rfl fun c _ => ?_
  rw [b40_apply j s h, chk_edge, var_edge]

/-- What a check receives. -/
theorem b62_apply (h : Complete s) (b : Fin 1024) (c : Fin 16) (k : Fin 16) : (b62 j s : FVec Ideal S1024x16x16 .f32) (ix3 b c k)
    = ∑ v : Fin 32, (Mlp.ofArgs s.main_v6_2 s.main_v6_3 s.main_v6_4 s.main_v6_5).out (ends s b c v) k := by
  have h0 : (b53 j s : FVec Ideal S1024x16x16 .f32) (ix3 b c k) = 0 := by pointwise [b53, b52]
  have h1 : (b62 j s : FVec Ideal S1024x16x16 .f32) (ix3 b c k) = (b53 j s : FVec Ideal S1024x16x16 .f32) (ix3 b c k)
      + ∑ v : Fin 32, (b29 j s : FVec Ideal S1024x512x16 .f32) (ix3 b (edge c v) k) :=
    scatter_chk _ _ _ _ (b7_apply j s h) b c k
  rw [h1, h0, zero_add]
  refine Finset.sum_congr rfl fun v _ => ?_
  rw [b29_apply j s h, chk_edge, var_edge]

/-- The row of variable `v` of batch row `b` in the flattened arrays. -/
def vRow (b : Fin 1024) (v : Fin 32) : Fin 32768 := ⟨b.val * 32 + v.val, by omega⟩

/-- The row of check `c` of batch row `b` in the flattened arrays. -/
def cRow (b : Fin 1024) (c : Fin 16) : Fin 16384 := ⟨b.val * 16 + c.val, by omega⟩

/-- The variables' unit on one row of the flattened arrays. -/
theorem b107_apply (r : Fin 32768) (f : Fin 32) : (b107 j s : FVec Ideal S32768x32 .f32) (ix2 r f)
    = (Gru.ofArgs s.main_v6_10 s.main_v6_12 s.main_v6_11 s.main_v6_13).out (fun i => (b63 j s : FVec Ideal S32768x16 .f32) (ix2 r i))
      (fun i => (b64 j s : FVec Ideal S32768x32 .f32) (ix2 r i)) f := by
  have hi : ∀ g : Fin 96, (b69 j s : FVec Ideal S32768x96 .f32) (ix2 r g)
      = (Gru.ofArgs s.main_v6_10 s.main_v6_12 s.main_v6_11 s.main_v6_13).gi (fun i => (b63 j s : FVec Ideal S32768x16 .f32) (ix2 r i)) g := by
    intro g
    pointwise [b69, b68, b67, b66, b65, Gru.gi, Gru.ofArgs]
  have hh : ∀ g : Fin 96, (b74 j s : FVec Ideal S32768x96 .f32) (ix2 r g)
      = (Gru.ofArgs s.main_v6_10 s.main_v6_12 s.main_v6_11 s.main_v6_13).gh (fun i => (b64 j s : FVec Ideal S32768x32 .f32) (ix2 r i)) g := by
    intro g
    pointwise [b74, b73, b72, b71, b70, Gru.gh, Gru.ofArgs]
  have h1 : (b107 j s : FVec Ideal S32768x32 .f32) (ix2 r f)
      = gate (fun g => (b69 j s : FVec Ideal S32768x96 .f32) (ix2 r g)) (fun g => (b74 j s : FVec Ideal S32768x96 .f32) (ix2 r g))
        (fun i => (b64 j s : FVec Ideal S32768x32 .f32) (ix2 r i)) f := by
    pointwise [b107, b106, b105, b104, b103, b102, b101, b100, b99, b98, b97, b96, b95, b94, b93, b92, b91, b90, b89, b88, b87, b86, b85, b84, b83, b82, b81, b80, b79, b78, b77, b76, b75, gate, sigmoid, gateRow, Ideal.exp]
  rw [h1, funext hi, funext hh]
  rfl

/-- The checks' unit for bit zero on one row of the flattened arrays. -/
theorem b153_apply (r : Fin 16384) (f : Fin 32) : (b153 j s : FVec Ideal S16384x32 .f32) (ix2 r f)
    = (Gru.ofArgs s.main_v6_14 s.main_v6_16 s.main_v6_15 s.main_v6_17).out (fun i => (b109 j s : FVec Ideal S16384x16 .f32) (ix2 r i))
      (fun i => (b110 j s : FVec Ideal S16384x32 .f32) (ix2 r i)) f := by
  have hi : ∀ g : Fin 96, (b115 j s : FVec Ideal S16384x96 .f32) (ix2 r g)
      = (Gru.ofArgs s.main_v6_14 s.main_v6_16 s.main_v6_15 s.main_v6_17).gi (fun i => (b109 j s : FVec Ideal S16384x16 .f32) (ix2 r i)) g := by
    intro g
    pointwise [b115, b114, b113, b112, b111, Gru.gi, Gru.ofArgs]
  have hh : ∀ g : Fin 96, (b120 j s : FVec Ideal S16384x96 .f32) (ix2 r g)
      = (Gru.ofArgs s.main_v6_14 s.main_v6_16 s.main_v6_15 s.main_v6_17).gh (fun i => (b110 j s : FVec Ideal S16384x32 .f32) (ix2 r i)) g := by
    intro g
    pointwise [b120, b119, b118, b117, b116, Gru.gh, Gru.ofArgs]
  have h1 : (b153 j s : FVec Ideal S16384x32 .f32) (ix2 r f)
      = gate (fun g => (b115 j s : FVec Ideal S16384x96 .f32) (ix2 r g)) (fun g => (b120 j s : FVec Ideal S16384x96 .f32) (ix2 r g))
        (fun i => (b110 j s : FVec Ideal S16384x32 .f32) (ix2 r i)) f := by
    pointwise [b153, b152, b151, b150, b149, b148, b147, b146, b145, b144, b143, b142, b141, b140, b139, b138, b137, b136, b135, b134, b133, b132, b131, b130, b129, b128, b127, b126, b125, b124, b123, b122, b121, gate, sigmoid, gateRow, Ideal.exp]
  rw [h1, funext hi, funext hh]
  rfl

/-- The trip's state with the weights of the checks' unit for bit one in the place of those for bit zero. -/
abbrev swapGru : Step.State Ideal :=
  { s with main_v6_14 := s.main_v6_18, main_v6_15 := s.main_v6_19, main_v6_16 := s.main_v6_20, main_v6_17 := s.main_v6_21 }

/-- The checks' unit for bit one on one row of the flattened arrays. -/
theorem b196_apply (r : Fin 16384) (f : Fin 32) : (b196 j s : FVec Ideal S16384x32 .f32) (ix2 r f)
    = (Gru.ofArgs s.main_v6_18 s.main_v6_20 s.main_v6_19 s.main_v6_21).out (fun i => (b109 j s : FVec Ideal S16384x16 .f32) (ix2 r i))
      (fun i => (b110 j s : FVec Ideal S16384x32 .f32) (ix2 r i)) f :=
  b153_apply j (swapGru s) r f

/-- A variable's new state. -/
theorem b108_apply (h : Complete s) (b : Fin 1024) (v : Fin 32) (f : Fin 32) : (b108 j s : FVec Ideal S1024x32x32 .f32) (ix3 b v f)
    = (Gru.ofArgs s.main_v6_10 s.main_v6_12 s.main_v6_11 s.main_v6_13).out
      (fun k => ∑ c : Fin 16, (Mlp.ofArgs s.main_v6_6 s.main_v6_7 s.main_v6_8 s.main_v6_9).out (ends s b c v) k)
      (fun k => (s.main_v6_27 : FVec Ideal S1024x32x32 .f32) (ix3 b v k)) f := by
  have h1 : (b108 j s : FVec Ideal S1024x32x32 .f32) (ix3 b v f) = (b107 j s : FVec Ideal S32768x32 .f32) (ix2 (vRow b v) f) := by
    pointwise [b108, vRow]
  have hx : ∀ k : Fin 16, (b63 j s : FVec Ideal S32768x16 .f32) (ix2 (vRow b v) k) = (b51 j s : FVec Ideal S1024x32x16 .f32) (ix3 b v k) := by
    intro k
    pointwise [b63, vRow]
  have hh : ∀ k : Fin 32, (b64 j s : FVec Ideal S32768x32 .f32) (ix2 (vRow b v) k) = (s.main_v6_27 : FVec Ideal S1024x32x32 .f32) (ix3 b v k) := by
    intro k
    pointwise [b64, vRow]
  rw [h1, b107_apply]
  simp only [hx, hh, b51_apply j s h]

/-- A check's new state: the unit for its syndrome bit. -/
theorem b200_apply (h : Complete s) (syn : IVec ⟨2, ![1024, 16]⟩ 32)
    (hm : ∀ b c, (s.main_v6_22 : IVec S16384 1) (ix1 (cRow b c)) = IntOp.cmpi .eq (syn (ix2 b c)) 1#32)
    (b : Fin 1024) (c : Fin 16) (f : Fin 32) : (b200 j s : FVec Ideal S1024x16x32 .f32) (ix3 b c f)
    = (if bit syn b c = true then Gru.ofArgs s.main_v6_18 s.main_v6_20 s.main_v6_19 s.main_v6_21
        else Gru.ofArgs s.main_v6_14 s.main_v6_16 s.main_v6_15 s.main_v6_17).out
      (fun k => ∑ v : Fin 32, (Mlp.ofArgs s.main_v6_2 s.main_v6_3 s.main_v6_4 s.main_v6_5).out (ends s b c v) k)
      (fun k => (s.main_v6_26 : FVec Ideal S1024x16x32 .f32) (ix3 b c k)) f := by
  have h1 : (b200 j s : FVec Ideal S1024x16x32 .f32) (ix3 b c f)
      = Scalar.select ((s.main_v6_22 : IVec S16384 1) (ix1 (cRow b c)))
        ((b196 j s : FVec Ideal S16384x32 .f32) (ix2 (cRow b c) f)) ((b153 j s : FVec Ideal S16384x32 .f32) (ix2 (cRow b c) f)) := by
    pointwise [b200, b199, b198, b197, cRow]
  have hx : ∀ k : Fin 16, (b109 j s : FVec Ideal S16384x16 .f32) (ix2 (cRow b c) k) = (b62 j s : FVec Ideal S1024x16x16 .f32) (ix3 b c k) := by
    intro k
    pointwise [b109, cRow]
  have hh : ∀ k : Fin 32, (b110 j s : FVec Ideal S16384x32 .f32) (ix2 (cRow b c) k) = (s.main_v6_26 : FVec Ideal S1024x16x32 .f32) (ix3 b c k) := by
    intro k
    pointwise [b110, cRow]
  rw [h1, hm, b196_apply, b153_apply]
  simp only [hx, hh, b62_apply j s h]
  by_cases hb : syn (ix2 b c) = 1#32
  · rw [StableHlo.Predicate.cmpi_eq_iff.mpr hb, if_pos (show bit syn b c = true from decide_eq_true hb)]
    rfl
  · have hz : IntOp.cmpi .eq (syn (ix2 b c)) 1#32 ≠ 1#1 := fun he => hb (StableHlo.Predicate.cmpi_eq_iff.mp he)
    rw [if_neg (fun ht : bit syn b c = true => hb (of_decide_eq_true ht))]
    exact if_neg hz

/-- A variable's prediction. -/
theorem b206_apply (b : Fin 1024) (v : Fin 32) : (b206 j s : FVec Ideal S1x1024x32 .f32) (ix3 0 b v)
    = (∑ k : Fin 32, (b108 j s : FVec Ideal S1024x32x32 .f32) (ix3 b v k) * (s.main_v6_23 : FVec Ideal S32x1 .f32) (ix2 k 0))
      + (s.main_v6_24 : FVec Ideal S1 .f32) (ix1 0) := by
  pointwise [b206, b205, b204, b203, b202, b201]

end Cert.Decoder

end
-- ==== Proof.RefRun.lean ====
/-
  The reference's run as six steps of a state: the values its loop carries and those set up before it, read off the run's
  valuation, go one step on with each trip.
-/
module

public import proofs.«01_k».proof.Proof.Gen.ReferenceIdeal.Run
public import proofs.«01_k».proof.Proof.Gen.ReferenceIdeal.Step

@[expose] public section

set_option maxRecDepth 16384

noncomputable section

namespace Cert.Decoder

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]

/-- The state a valuation of the loop's buffers holds. -/
def stateOf (V : Valuation τ sig (Elt F)) : Step.State F where
  main_v6_26 := V (Proc.devRef .tc main_v6_26)
  main_v6_27 := V (Proc.devRef .tc main_v6_27)
  main_v6_28 := V (Proc.devRef .tc main_v6_28)
  main_v6_0 := V (Proc.devRef .tc main_v6_0)
  main_v6_1 := V (Proc.devRef .tc main_v6_1)
  main_v6_2 := V (Proc.devRef .tc main_v6_2)
  main_v6_3 := V (Proc.devRef .tc main_v6_3)
  main_v6_4 := V (Proc.devRef .tc main_v6_4)
  main_v6_5 := V (Proc.devRef .tc main_v6_5)
  main_v6_6 := V (Proc.devRef .tc main_v6_6)
  main_v6_7 := V (Proc.devRef .tc main_v6_7)
  main_v6_8 := V (Proc.devRef .tc main_v6_8)
  main_v6_9 := V (Proc.devRef .tc main_v6_9)
  main_v6_10 := V (Proc.devRef .tc main_v6_10)
  main_v6_11 := V (Proc.devRef .tc main_v6_11)
  main_v6_12 := V (Proc.devRef .tc main_v6_12)
  main_v6_13 := V (Proc.devRef .tc main_v6_13)
  main_v6_14 := V (Proc.devRef .tc main_v6_14)
  main_v6_15 := V (Proc.devRef .tc main_v6_15)
  main_v6_16 := V (Proc.devRef .tc main_v6_16)
  main_v6_17 := V (Proc.devRef .tc main_v6_17)
  main_v6_18 := V (Proc.devRef .tc main_v6_18)
  main_v6_19 := V (Proc.devRef .tc main_v6_19)
  main_v6_20 := V (Proc.devRef .tc main_v6_20)
  main_v6_21 := V (Proc.devRef .tc main_v6_21)
  main_v6_22 := V (Proc.devRef .tc main_v6_22)
  main_v6_23 := V (Proc.devRef .tc main_v6_23)
  main_v6_24 := V (Proc.devRef .tc main_v6_24)

/-- The checks' states after a trip are the step's. -/
theorem trip_hc (V : Valuation τ sig (Elt F)) (j : ℕ) : step_main_v6_26 V = Step.b200 j (stateOf V) := rfl

/-- The variables' states after a trip are the step's. -/
theorem trip_hv (V : Valuation τ sig (Elt F)) (j : ℕ) : step_main_v6_27 V = Step.b108 j (stateOf V) := rfl

/-- The predictions after trip `j` are the step's. -/
theorem trip_out (V : Valuation τ sig (Elt F)) (j : ℕ)
    (hj : V (Proc.devRef .tc main_v6_25) = constantI S_ 32 (BitVec.ofNat 32 j)) :
    step_main_v6_28 V = Step.b209 j (stateOf V) := by
  unfold step_main_v6_28 Step.b209
  rw [hj]
  rfl

/-- A trip takes the held state one step on. -/
theorem stateOf_step (V : Valuation τ sig (Elt F)) (j : ℕ)
    (hj : V (Proc.devRef .tc main_v6_25) = constantI S_ 32 (BitVec.ofNat 32 j)) :
    stateOf (STEP V) = Step.step j (stateOf V) := by
  generalize hs : Step.step j (stateOf V) = s
  unfold stateOf
  rw [STEP_main_v6_26, STEP_main_v6_27, STEP_main_v6_28, STEP_main_v6_0, STEP_main_v6_1, STEP_main_v6_2, STEP_main_v6_3,
    STEP_main_v6_4, STEP_main_v6_5, STEP_main_v6_6, STEP_main_v6_7, STEP_main_v6_8, STEP_main_v6_9, STEP_main_v6_10,
    STEP_main_v6_11, STEP_main_v6_12, STEP_main_v6_13, STEP_main_v6_14, STEP_main_v6_15, STEP_main_v6_16, STEP_main_v6_17,
    STEP_main_v6_18, STEP_main_v6_19, STEP_main_v6_20, STEP_main_v6_21, STEP_main_v6_22, STEP_main_v6_23, STEP_main_v6_24]
  rw [trip_hc V j, trip_hv V j, trip_out V j hj, ← hs]
  rfl

/-- A trip counts one on. -/
theorem count_step (V : Valuation τ sig (Elt F)) (j : ℕ)
    (hj : V (Proc.devRef .tc main_v6_25) = constantI S_ 32 (BitVec.ofNat 32 j)) :
    STEP V (Proc.devRef .tc main_v6_25) = constantI S_ 32 (BitVec.ofNat 32 (j + 1)) := by
  rw [STEP_main_v6_25]
  unfold step_main_v6_25
  rw [hj]
  funext i
  show BitVec.ofNat 32 j + 1#32 = BitVec.ofNat 32 (j + 1)
  exact (BitVec.ofNat_add j 1).symm

variable (m : (ℓ : Loc nD τ sig) → Buf (Elt F) ℓ) (c : Dev nD)

/-- The state the loop starts from. -/
def start : Step.State F :=
  Step.init (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) (m ((c.tc : Thread nD τ).loc main_arg8))
    (m ((c.tc : Thread nD τ).loc main_arg9)) (m ((c.tc : Thread nD τ).loc main_arg10))
    (m ((c.tc : Thread nD τ).loc main_arg11)) (m ((c.tc : Thread nD τ).loc main_arg13))
    (m ((c.tc : Thread nD τ).loc main_arg12)) (m ((c.tc : Thread nD τ).loc main_arg14))
    (m ((c.tc : Thread nD τ).loc main_arg15)) (m ((c.tc : Thread nD τ).loc main_arg17))
    (m ((c.tc : Thread nD τ).loc main_arg16)) (m ((c.tc : Thread nD τ).loc main_arg18))
    (m ((c.tc : Thread nD τ).loc main_arg19)) (m ((c.tc : Thread nD τ).loc main_arg21))
    (m ((c.tc : Thread nD τ).loc main_arg20)) (m ((c.tc : Thread nD τ).loc main_arg22))
    (m ((c.tc : Thread nD τ).loc main_arg23)) (m ((c.tc : Thread nD τ).loc main_arg24))
    (m ((c.tc : Thread nD τ).loc main_arg0))

/-- The state after `n` trips. -/
def trips : ℕ → Step.State F
  | 0 => start m c
  | n + 1 => Step.step n (trips n)

set_option maxHeartbeats 1100000 in
/-- What the operations before the loop leave is the starting state, and the count zero. -/
theorem stateOf_entry : stateOf (entryContents preI m c) = start m c
    ∧ entryContents preI m c (Proc.devRef .tc main_v6_25) = constantI S_ 32 (BitVec.ofNat 32 0) := by
  unfold stateOf start Step.init
  constructor
  · simp only [entryContents, afterL_cons, afterL_nil]
    after_reads_simp
    rfl
  · simp only [entryContents, afterL_cons, afterL_nil]
    after_reads_simp
    rfl

/-- After `k` trips the loop's buffers hold the state after `k` trips, and the count `k`. -/
theorem stateOf_iter : ∀ k, stateOf (STEP^[k] (entryContents preI m c)) = trips m c k
    ∧ STEP^[k] (entryContents preI m c) (Proc.devRef .tc main_v6_25) = constantI S_ 32 (BitVec.ofNat 32 k)
  | 0 => stateOf_entry m c
  | k + 1 => by
    obtain ⟨hs, hk⟩ := stateOf_iter k
    rw [Function.iterate_succ_apply']
    exact ⟨(stateOf_step _ k hk).trans (by rw [hs]; rfl), count_step _ k hk⟩

/-- What is made of the loop's buffers after it is the transpose of the held predictions. -/
theorem result_stateOf (V : Valuation τ sig (Elt F)) : out_main_v7 V = Step.R_main_v7 (stateOf V) := rfl

/-- The result is the transpose of the predictions of the state after six trips. -/
theorem result_eq : out_main_v7 (STEP^[6] (entryContents preI m c)) = Step.R_main_v7 (trips m c 6) := by
  rw [result_stateOf, (stateOf_iter m c 6).1]

end Cert.Decoder

end
-- ==== Proof.RTrips.lean ====
/-
  The reference's trips followed on the table: on the complete graph the states after `n` trips are the table's after `n`
  iterations, read at the check's syndrome bit and at the number of ones, and the predictions kept so far are the table's.
-/
module

public import proofs.«01_k».proof.Proof.RBody
public import proofs.«01_k».proof.Proof.RefRun
public import Idealize.ShloMosaic.Lib.WordCmp

@[expose] public section

set_option maxRecDepth 16384

noncomputable section

open scoped BigOperators

namespace Cert.Decoder

open Idealize.ShloMosaic Idealize.ShloMosaic.TcCoe Idealize.SL.Sem
open Cert.ReferenceIdeal Cert.ReferenceIdeal.Gen Cert.ReferenceIdeal.Step

/-- The predictions after trip `j`: the trip's own at place `j`, the old ones elsewhere. -/
theorem b209_apply (j : ℕ) (hj : j < 6) (s : Step.State Ideal) (t : Fin 6) (b : Fin 1024) (v : Fin 32) :
    (b209 j s : FVec Ideal S6x1024x32 .f32) (ix3 t b v) = if t.val = j then (b206 j s : FVec Ideal S1x1024x32 .f32) (ix3 0 b v)
      else (s.main_v6_28 : FVec Ideal S6x1024x32 .f32) (ix3 t b v) := by
  have hk : S6x1024x32.Slices ![j, 0, 0] S1x1024x32 := ⟨rfl, fun a => by
    match a with
    | ⟨0, _⟩ => exact (show j + 1 ≤ 6 by omega)
    | ⟨1, _⟩ => exact (show 0 + 1024 ≤ 1024 by omega)
    | ⟨2, _⟩ => exact (show 0 + 32 ≤ 32 by omega)⟩
  have e : (b209 j s : FVec Ideal S6x1024x32 .f32) = updateSlice (s.main_v6_28 : FVec Ideal S6x1024x32 .f32) (b206 j s : FVec Ideal S1x1024x32 .f32) ![j, 0, 0] hk := by
    refine WordCmp.dynamicUpdateSlice_eq_update _ _ _ _ _ hk fun a => ?_
    match a with
    | ⟨0, _⟩ => exact toInt_ofNat j (by omega)
    | ⟨1, _⟩ => rfl
    | ⟨2, _⟩ => rfl
  rw [e]
  unfold updateSlice
  by_cases ht : t.val = j
  · rw [if_pos ht, dif_pos (fun a => by
      match a with
      | ⟨0, _⟩ => exact (show j ≤ t.val ∧ t.val < j + 1 by omega)
      | ⟨1, _⟩ => exact (show 0 ≤ b.val ∧ b.val < 0 + 1024 by omega)
      | ⟨2, _⟩ => exact (show 0 ≤ v.val ∧ v.val < 0 + 32 by omega))]
    congr 1
    funext a
    apply Fin.ext
    match a with
    | ⟨0, _⟩ => exact (show t.val - j = 0 by omega)
    | ⟨1, _⟩ => rfl
    | ⟨2, _⟩ => rfl
  · rw [if_neg ht, dif_neg (fun h => ht (by
      have h0 : j ≤ t.val ∧ t.val < j + 1 := h (0 : Fin 3)
      omega))]

/-- The weights a state holds. -/
def rNet (s : Step.State Ideal) : Net :=
  Net.ofArgs s.main_v6_2 s.main_v6_3 s.main_v6_4 s.main_v6_5 s.main_v6_6 s.main_v6_7 s.main_v6_8 s.main_v6_9
    s.main_v6_10 s.main_v6_12 s.main_v6_11 s.main_v6_13 s.main_v6_14 s.main_v6_16 s.main_v6_15 s.main_v6_17
    s.main_v6_18 s.main_v6_20 s.main_v6_19 s.main_v6_21 s.main_v6_23 s.main_v6_24

/-- What a state on the complete graph holds after `n` trips, for the weights `N` and the syndromes `syn`. -/
structure Holds (N : Net) (syn : IVec ⟨2, ![1024, 16]⟩ 32) (n : ℕ) (s : Step.State Ideal) : Prop where
  graph : Complete s
  net : rNet s = N
  mask : ∀ b c, (s.main_v6_22 : IVec S16384 1) (ix1 (cRow b c)) = IntOp.cmpi .eq (syn (ix2 b c)) 1#32
  hc : ∀ b c k, (s.main_v6_26 : FVec Ideal S1024x16x32 .f32) (ix3 b c k) = (N.table n).hc (bit syn b c) (ones syn b) k
  hv : ∀ b v k, (s.main_v6_27 : FVec Ideal S1024x32x32 .f32) (ix3 b v k) = (N.table n).hv (ones syn b) k
  out : ∀ (t : Fin 6) b v, t.val < n → (s.main_v6_28 : FVec Ideal S6x1024x32 .f32) (ix3 t b v) = N.llr t.val (ones syn b)

/-- The states of an edge's ends are the table's. -/
theorem Holds.ends_eq {N : Net} {syn : IVec ⟨2, ![1024, 16]⟩ 32} {n : ℕ} {s : Step.State Ideal} (h : Holds N syn n s)
    (b : Fin 1024) (c : Fin 16) (v : Fin 32) : ends s b c v = (N.table n).ends (bit syn b c) (ones syn b) :=
  congrArg₂ pair (funext fun k => h.hc b c k) (funext fun k => h.hv b v k)

/-- The new state of a variable is the next table's. -/
theorem Holds.next_hv {N : Net} {syn : IVec ⟨2, ![1024, 16]⟩ 32} {n : ℕ} {s : Step.State Ideal} (h : Holds N syn n s)
    (b : Fin 1024) (v k : Fin 32) : (b108 n s : FVec Ideal S1024x32x32 .f32) (ix3 b v k) = (N.table (n + 1)).hv (ones syn b) k := by
  have hs : ∀ e : Fin 16, ∑ c : Fin 16, N.c2v.out (ends s b c v) e
      = (((16 : ℝ) : EReal) - (((ones syn b).val : ℝ) : EReal)) * N.c2v.out ((N.table n).ends false (ones syn b)) e
        + (((ones syn b).val : ℝ) : EReal) * N.c2v.out ((N.table n).ends true (ones syn b)) e := by
    intro e
    simp only [h.ends_eq]
    exact sum_by_bit syn b fun x => N.c2v.out ((N.table n).ends x (ones syn b)) e
  have h1 := b108_apply n s h.graph b v k
  refine h1.trans ?_
  have hN : (Gru.ofArgs s.main_v6_10 s.main_v6_12 s.main_v6_11 s.main_v6_13) = N.gv := congrArg Net.gv h.net
  have hM : (Mlp.ofArgs s.main_v6_6 s.main_v6_7 s.main_v6_8 s.main_v6_9) = N.c2v := congrArg Net.c2v h.net
  rw [hN, hM, funext hs, funext (h.hv b v)]
  rfl

/-- The new state of a check is the next table's. -/
theorem Holds.next_hc {N : Net} {syn : IVec ⟨2, ![1024, 16]⟩ 32} {n : ℕ} {s : Step.State Ideal} (h : Holds N syn n s)
    (b : Fin 1024) (c : Fin 16) (k : Fin 32) :
    (b200 n s : FVec Ideal S1024x16x32 .f32) (ix3 b c k) = (N.table (n + 1)).hc (bit syn b c) (ones syn b) k := by
  have hs : ∀ e : Fin 16, ∑ v : Fin 32, N.v2c.out (ends s b c v) e
      = ((32 : ℝ) : EReal) * N.v2c.out ((N.table n).ends (bit syn b c) (ones syn b)) e := by
    intro e
    simp only [h.ends_eq]
    exact sum_const32 _
  have h1 := b200_apply n s h.graph syn h.mask b c k
  refine h1.trans ?_
  have hN : (if bit syn b c = true then Gru.ofArgs s.main_v6_18 s.main_v6_20 s.main_v6_19 s.main_v6_21
      else Gru.ofArgs s.main_v6_14 s.main_v6_16 s.main_v6_15 s.main_v6_17) = N.gc (bit syn b c) := congrFun (congrArg Net.gc h.net) _
  have hM : (Mlp.ofArgs s.main_v6_2 s.main_v6_3 s.main_v6_4 s.main_v6_5) = N.v2c := congrArg Net.v2c h.net
  rw [hN, hM, funext hs, funext (h.hc b c)]
  rfl

/-- The trip's predictions are the next table's. -/
theorem Holds.next_pred {N : Net} {syn : IVec ⟨2, ![1024, 16]⟩ 32} {n : ℕ} {s : Step.State Ideal} (h : Holds N syn n s)
    (b : Fin 1024) (v : Fin 32) : (b206 n s : FVec Ideal S1x1024x32 .f32) (ix3 0 b v) = N.llr n (ones syn b) := by
  rw [b206_apply]
  simp only [h.next_hv]
  have hw : (fun k : Fin 32 => (s.main_v6_23 : FVec Ideal S32x1 .f32) (ix2 k 0)) = N.pw := congrArg Net.pw h.net
  have hb : (s.main_v6_24 : FVec Ideal S1 .f32) (ix1 0) = N.pb := congrArg Net.pb h.net
  rw [hb]
  show (∑ k : Fin 32, (N.table (n + 1)).hv (ones syn b) k * (fun k : Fin 32 => (s.main_v6_23 : FVec Ideal S32x1 .f32) (ix2 k 0)) k) + N.pb = _
  rw [hw]
  rfl

/-- A trip takes what the state holds one iteration on. -/
theorem Holds.step {N : Net} {syn : IVec ⟨2, ![1024, 16]⟩ 32} {n : ℕ} {s : Step.State Ideal} (h : Holds N syn n s) (hn : n < 6) :
    Holds N syn (n + 1) (Step.step n s) where
  graph := ⟨h.graph.chk, h.graph.var⟩
  net := h.net
  mask := h.mask
  hc := h.next_hc
  hv := h.next_hv
  out t b v ht := by
    refine (b209_apply n hn s t b v).trans ?_
    by_cases e : t.val = n
    · rw [if_pos e, h.next_pred b v, e]
    · rw [if_neg e, h.out t b v (by omega)]

variable (m : (ℓ : Loc nD τ sig) → Buf (Elt Ideal) ℓ) (c : Dev nD)

/-- The reference's syndromes. -/
def rSyn : IVec ⟨2, ![1024, 16]⟩ 32 := m ((c.tc : Thread nD τ).loc main_arg0)

/-- What the starting state holds, on the complete graph. -/
theorem start_holds (h : Complete (start m c)) : Holds (rNet (start m c)) (rSyn m c) 0 (start m c) where
  graph := h
  net := rfl
  mask b k := by
    have e : (A_main_v2 (F := Ideal) (rSyn m c) : IVec S16384 1) (ix1 (cRow b k)) = IntOp.cmpi .eq (rSyn m c (ix2 b k)) 1#32 := by
      pointwise [A_main_v2, A_main_v0, K_main_v1, K_main_c, cRow]
    exact e
  hc b k f := by
    have e : (K_main_v3 (F := Ideal) : FVec Ideal S1024x16x32 .f32) (ix3 b k f) = 0 := by pointwise [K_main_v3, K_main_cst]
    exact e
  hv b v f := by
    have e : (K_main_v4 (F := Ideal) : FVec Ideal S1024x32x32 .f32) (ix3 b v f) = 0 := by pointwise [K_main_v4, K_main_cst_0]
    exact e
  out t b v ht := absurd ht (Nat.not_lt_zero _)

/-- What the state holds after `n` trips, on the complete graph. -/
theorem trips_holds (h : Complete (start m c)) : ∀ n, n ≤ 6 → Holds (rNet (start m c)) (rSyn m c) n (trips m c n)
  | 0, _ => start_holds m c h
  | n + 1, hn => (trips_holds h n (by omega)).step (by omega)

/-- The reference's result at one element: the table's prediction for the number of ones in the batch row's syndrome. -/
theorem reference_apply (h : Complete (start m c)) (v : Fin 32) (b : Fin 1024) (t : Fin 6) :
    (Step.R_main_v7 (trips m c 6) : FVec Ideal S32x1024x6 .f32) (ix3 v b t) = (rNet (start m c)).llr t.val (ones (rSyn m c) b) := by
  have e : (Step.R_main_v7 (trips m c 6) : FVec Ideal S32x1024x6 .f32) (ix3 v b t)
      = ((trips m c 6).main_v6_28 : FVec Ideal S6x1024x32 .f32) (ix3 t b v) := by
    pointwise [Step.R_main_v7]
  rw [e, (trips_holds m c h 6 le_rfl).out t b v t.isLt]

end Cert.Decoder

end
-- ==== Proof.Graph.lean ====
/-
  The precondition read out: the endpoint arrays are those of the complete graph, edge `e` joining check `e / 32` and
  variable `e % 32`.
-/
module

public import proofs.«01_k».proof.Defs
public import proofs.«01_k».proof.Proof.Gen.Pre_complete_graph
public import proofs.«01_k».proof.Proof.Edges

@[expose] public section

noncomputable section

namespace Cert.Decoder

open Idealize.ShloMosaic

/-- The high bits of an edge's number are its check. -/
theorem shift_edge (e : Fin 512) : IntOp.shrsi .host (BitVec.ofNat 32 e.val) 5#32 = BitVec.ofNat 32 (chk e).val := by
  have := e.isLt
  have hm : (BitVec.ofNat 32 e.val).msb = false := by
    rw [BitVec.msb_eq_false_iff_two_mul_lt, BitVec.toNat_ofNat]
    omega
  have h1 : IntOp.shrsi .host (BitVec.ofNat 32 e.val) 5#32 = (BitVec.ofNat 32 e.val).sshiftRight 5 := rfl
  rw [h1, BitVec.sshiftRight_eq_of_msb_false hm]
  apply BitVec.eq_of_toNat_eq
  rw [BitVec.toNat_ushiftRight, Nat.shiftRight_eq_div_pow, BitVec.toNat_ofNat, BitVec.toNat_ofNat]
  simp only [chk]
  omega

/-- The low bits of an edge's number are its variable. -/
theorem mask_edge (e : Fin 512) : IntOp.andi (BitVec.ofNat 32 e.val) 31#32 = BitVec.ofNat 32 (var e).val := by
  have := e.isLt
  have h1 : IntOp.andi (BitVec.ofNat 32 e.val) 31#32 = BitVec.ofNat 32 e.val &&& 31#32 := rfl
  rw [h1]
  apply BitVec.eq_of_toNat_eq
  rw [BitVec.toNat_and, BitVec.toNat_ofNat, BitVec.toNat_ofNat, BitVec.toNat_ofNat, Nat.and_two_pow_sub_one_eq_mod _ 5]
  simp only [var]
  omega

/-- Two bits whose conjunction is one are both one. -/
theorem andi_one (p q : BitVec 1) (h : IntOp.andi p q = 1#1) : p = 1#1 ∧ q = 1#1 := by
  revert p q
  decide

/-- Under the precondition the kernel's endpoint arrays are the complete graph's. -/
theorem graph_of_pre (m : (ℓ : Loc Cert.KernelIdeal.nD Cert.KernelIdeal.τ Cert.KernelIdeal.sig) → Buf (Elt Ideal) ℓ)
    (h : Cert.Pre_KernelIdeal_complete_graph m) (c : Dev Cert.KernelIdeal.nD) (e : Fin 512) :
    (m ((c.tc : Thread Cert.KernelIdeal.nD Cert.KernelIdeal.τ).loc Cert.KernelIdeal.main_arg1) : IVec ⟨1, ![512]⟩ 32) (ix1 e)
        = BitVec.ofNat 32 (chk e).val
      ∧ (m ((c.tc : Thread Cert.KernelIdeal.nD Cert.KernelIdeal.τ).loc Cert.KernelIdeal.main_arg2) : IVec ⟨1, ![512]⟩ 32) (ix1 e)
        = BitVec.ofNat 32 (var e).val := by
  have he := congrFun (h c) (ix1 e)
  obtain ⟨h1, h2⟩ := andi_one _ _ he
  exact ⟨(StableHlo.Predicate.cmpi_eq_iff.mp h1).trans (shift_edge e), (StableHlo.Predicate.cmpi_eq_iff.mp h2).trans (mask_edge e)⟩

end Cert.Decoder

end
-- ==== Proof.lean ====
/-
  The proof of `Cert.Claim`: the kernel and its idealization run and leave their arguments, the reference does too, the two
  idealizations' results are one array on the complete graph (`kernel_apply` and `reference_apply` read both as the table's
  predictions), and the idealization replaced no operation.
-/
module

public import proofs.«01_k».proof.Defs
public import proofs.«01_k».proof.Proof.Gen.Kernel.Frame
public import proofs.«01_k».proof.Proof.Gen.KernelIdeal.Frame
public import proofs.«01_k».proof.Proof.KArgs
public import proofs.«01_k».proof.Proof.RTrips
public import proofs.«01_k».proof.Proof.Graph

@[expose] public section

set_option maxRecDepth 16384

noncomputable section

namespace Cert.Proof

open Idealize.ShloMosaic Idealize.ShloMosaic.TcCoe Idealize.SL.Sem Cert.Decoder

/-- The reference runs, leaves its arguments and ends with every counter at zero, whatever its memory holds. -/
theorem frame_reference : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

section Algebra

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The kernel's result array. -/
def kResult : FVec Ideal ⟨3, ![32, 1024, 6]⟩ .f32 :=
  transpose Cert.KernelIdeal.S32x1024x6 [1, 2, 0] (Cert.KernelIdeal.Value.reg_main_call0_v21 m c)
    Cert.KernelIdeal.Gen.facts.transposes_S6x32x1024_S32x1024x6_1_2_0

/-- The reference's result array. -/
def rResult : FVec Ideal ⟨3, ![32, 1024, 6]⟩ .f32 := Cert.ReferenceIdeal.Step.R_main_v7 (trips m' c 6)

/-- The two results agree where the weights and the syndromes do and the graph is complete. -/
theorem results_eq (hg : Complete (start m' c)) (hn : rNet (start m' c) = kNet m c)
    (hs : rSyn m' c = m ((c.tc : Thread Cert.KernelIdeal.nD Cert.KernelIdeal.τ).loc Cert.KernelIdeal.main_arg0)) :
    rResult m' c = kResult m c := by
  funext i
  have eta : i = ix3 (i (0 : Fin 3)) (i (1 : Fin 3)) (i (2 : Fin 3)) := by
    funext a
    match a with
    | ⟨0, _⟩ => rfl
    | ⟨1, _⟩ => rfl
    | ⟨2, _⟩ => rfl
  rw [eta]
  have hr := reference_apply m' c hg (i (0 : Fin 3)) (i (1 : Fin 3)) (i (2 : Fin 3))
  have hk := kernel_apply m c (i (0 : Fin 3)) (i (1 : Fin 3)) (i (2 : Fin 3))
  rw [hn, hs] at hr
  exact hr.trans hk.symm

end Algebra

/-- On the complete graph the kernel's idealization and the reference's compute one array. -/
theorem algebraic : Cert.algebraic_KernelIdeal_ReferenceIdeal_pre_complete_graph := by
  intro m g m' g' hpre hagree
  refine ⟨fun c => kResult m c, (θ_run Cert.KernelIdeal.defs _ _).mono (fun r h => h) (Cert.KernelIdeal.Value.run (F := Ideal) m g), ?_⟩
  refine (θ_run Cert.ReferenceIdeal.defs _ _).mono (fun r h c => ⟨((h c).1.trans (result_eq m' c)).trans ?_, (h c).2⟩)
    (Cert.ReferenceIdeal.Value.run (F := Ideal) m' g')
  obtain ⟨a0, a1, a2, a3, a4, a5, a6, a7, a8, a9, a10, a11, a12, a13, a14, a15, a16, a17, a18, a19, a20, a21, a22, a23, a24⟩ := hagree c
  refine results_eq m m' c ⟨fun e => ?_, fun e => ?_⟩ ?_ a0
  · exact (congrFun a1 (ix1 e)).trans (graph_of_pre m hpre c e).1
  · exact (congrFun a2 (ix1 e)).trans (graph_of_pre m hpre c e).2
  · unfold rNet kNet
    congr 1

/-- Everything claimed of the kernel. -/
theorem claim : Cert.Claim :=
  ⟨Cert.Kernel.Gen.facts, Cert.KernelIdeal.Gen.facts, Cert.ReferenceIdeal.Gen.facts, Cert.Pre_complete_graph.Gen.facts,
    fun m g _ => Cert.Kernel.Gen.frame m g,
    fun m g _ => Cert.KernelIdeal.Gen.frame m g,
    fun m g _ => Cert.KernelIdeal.Gen.frame m g,
    frame_reference,
    fun m g _ => frame_reference m g trivial,
    trivial,
    algebraic⟩

end Cert.Proof

end
